-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S4x128x512 : Shape := ⟨3, ![4, 128, 512]⟩
abbrev S4 : Shape := ⟨1, ![4]⟩
abbrev S_ : Shape := ⟨0, ![]⟩
abbrev S1 : Shape := ⟨1, ![1]⟩
abbrev S1x128x512 : Shape := ⟨3, ![1, 128, 512]⟩
abbrev S128x512 : Shape := ⟨2, ![128, 512]⟩

abbrev nBuf : Space → Nat
  | .hbm => 2
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .local _ .vmem, ⟨0, _⟩ => ⟨S4x128x512, .f32⟩
  | .local _ .vmem, ⟨1, _⟩ => ⟨S4x128x512, .bf16⟩
  | .local _ .vmem, ⟨2, _⟩ => ⟨S4x128x512, .bf16⟩
  | .local _ .vmem, ⟨3, _⟩ => ⟨S4x128x512, .bf16⟩
  | .local _ .vmem, ⟨4, _⟩ => ⟨S4x128x512, .bf16⟩
  | .local _ .vmem, ⟨5, _⟩ => ⟨S4x128x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_42 : BitVec 32 := 1#32
  let v41 : BitVec 32 := Scalar.muli v3 c1_i32_42
  let v42 : BitVec 32 := Scalar.addi c0_i32_43 v41
  v42.toNat
def k0_dev4 (d0 : Dev nD) : Nat :=
  let c0_i32_64 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_63 : BitVec 32 := 1#32
  let v62 : BitVec 32 := Scalar.muli v4 c1_i32_63
  let v63 : BitVec 32 := Scalar.addi c0_i32_64 v62
  v63.toNat
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_84 : BitVec 32 := 1#32
  let v83 : BitVec 32 := Scalar.muli v3 c1_i32_84
  let v84 : BitVec 32 := Scalar.addi c0_i32_85 v83
  v84.toNat
def k0_dev6 (d0 : Dev nD) : Nat :=
  let c0_i32_106 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_105 : BitVec 32 := 1#32
  let v104 : BitVec 32 := Scalar.muli v4 c1_i32_105
  let v105 : BitVec 32 := Scalar.addi c0_i32_106 v104
  v105.toNat
def k0_dev7 (d0 : Dev nD) : Nat :=
  let c0_i32_135 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_134 : BitVec 32 := 1#32
  let v130 : BitVec 32 := Scalar.muli v4 c1_i32_134
  let v131 : BitVec 32 := Scalar.addi c0_i32_135 v130
  v131.toNat
def k0_dev8 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_163 : BitVec 32 := 1#32
  let v156 : BitVec 32 := Scalar.muli v3 c1_i32_163
  let v157 : BitVec 32 := Scalar.addi c0_i32_164 v156
  v157.toNat
def k0_dev9 (d0 : Dev nD) : Nat :=
  let c0_i32_193 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_192 : BitVec 32 := 1#32
  let v182 : BitVec 32 := Scalar.muli v4 c1_i32_192
  let v183 : BitVec 32 := Scalar.addi c0_i32_193 v182
  v183.toNat
def k0_dev10 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_221 : BitVec 32 := 1#32
  let v208 : BitVec 32 := Scalar.muli v3 c1_i32_221
  let v209 : BitVec 32 := Scalar.addi c0_i32_222 v208
  v209.toNat
-- ==== ReferenceIdeal.lean ====
abbrev S2048x512 : Shape := ⟨2, ![2048, 512]⟩
abbrev S4x512x512 : Shape := ⟨3, ![4, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Common.lean ====
/-
# The exchange: devices, chunks, semaphores, contents

Four devices each hold a 512 by 512 block `x` and end with the sum of the four blocks. The block is cut in four chunks of
128 rows. Every chunk is exchanged twice: a device swaps its chunk with one neighbour and adds what came, then swaps that
sum with the other neighbour and adds again. Chunks 0 and 1 go first to the neighbour whose number differs in the last bit
and then to device `3 - c`, chunks 2 and 3 the other way round.

This module names what the proof speaks of: the two neighbours, the chunks of every buffer, the 24 copy semaphores and the
barrier semaphore, and what each chunk of each buffer holds at each stage.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

theorem flip_lt (c : Dev nD) : c.val ^^^ 1 < nD := by revert c; decide
theorem mirror_lt (c : Dev nD) : 3 - c.val < nD := by revert c; decide

/-- The neighbour of `c` on side `b`: `false` is the device whose number differs in the last bit, `true` the device `3 - c`. -/
def peer (b : Bool) (c : Dev nD) : Dev nD :=
  if b then ⟨3 - c.val, mirror_lt c⟩ else ⟨c.val ^^^ 1, flip_lt c⟩

/-- Either side is a swap: the neighbour's neighbour is the device itself. -/
theorem peer_peer (b : Bool) (c : Dev nD) : peer b (peer b c) = c := by revert b c; decide

/-- The swap as a bijection of the devices. -/
def swap (b : Bool) : Dev nD ≃ Dev nD := ⟨peer b, peer b, peer_peer b, peer_peer b⟩

/-- Chunks 2 and 3 are exchanged with side `true` first. -/
def late (k : Fin 4) : Bool := decide (2 ≤ k.val)

/-- The neighbour chunk `k` is exchanged with in the first round. -/
abbrev fst (k : Fin 4) (c : Dev nD) : Dev nD := peer (late k) c
/-- The neighbour chunk `k` is exchanged with in the second round. -/
abbrev snd (k : Fin 4) (c : Dev nD) : Dev nD := peer (!late k) c

/-- The devices the two signals and the eight copies name, in the order the kernel computes them. -/
theorem dev1_eq (c : Dev nD) : (⟨k0_dev1 c, k0_dev1_lt c⟩ : Dev nD) = peer false c := by revert c; decide +kernel
theorem dev2_eq (c : Dev nD) : (⟨k0_dev2 c, k0_dev2_lt c⟩ : Dev nD) = peer true c := by revert c; decide +kernel
theorem dev3_eq (c : Dev nD) : (⟨k0_dev3 c, k0_dev3_lt c⟩ : Dev nD) = fst 0 c := by revert c; decide +kernel
theorem dev4_eq (c : Dev nD) : (⟨k0_dev4 c, k0_dev4_lt c⟩ : Dev nD) = fst 2 c := by revert c; decide +kernel
theorem dev5_eq (c : Dev nD) : (⟨k0_dev5 c, k0_dev5_lt c⟩ : Dev nD) = fst 1 c := by revert c; decide +kernel
theorem dev6_eq (c : Dev nD) : (⟨k0_dev6 c, k0_dev6_lt c⟩ : Dev nD) = fst 3 c := by revert c; decide +kernel
theorem dev7_eq (c : Dev nD) : (⟨k0_dev7 c, k0_dev7_lt c⟩ : Dev nD) = snd 0 c := by revert c; decide +kernel
theorem dev8_eq (c : Dev nD) : (⟨k0_dev8 c, k0_dev8_lt c⟩ : Dev nD) = snd 2 c := by revert c; decide +kernel
theorem dev9_eq (c : Dev nD) : (⟨k0_dev9 c, k0_dev9_lt c⟩ : Dev nD) = snd 1 c := by revert c; decide +kernel
theorem dev10_eq (c : Dev nD) : (⟨k0_dev10 c, k0_dev10_lt c⟩ : Dev nD) = snd 3 c := by revert c; decide +kernel

/-! ## Chunks -/

theorem inb3 (k : Fin 4) : ∀ a, (![k.val, 0, 0] : Fin 3 → Nat) a + S1x128x512.size a ≤ S4x128x512.size a := by
  revert k; decide
theorem inb2 (k : Fin 4) : ∀ a, (![128 * k.val, 0] : Fin 2 → Nat) a + S128x512.size a ≤ S512x512.size a := by
  revert k; decide
theorem inb1 (k : Fin 4) : ∀ a, (![k.val] : Fin 1 → Nat) a + S1.size a ≤ S4.size a := by revert k; decide

/-- Slab `k` of a buffer of four slabs. -/
abbrev slab (k : Fin 4) : Rect S4x128x512 := Rect.unit (s := S4x128x512) ![k.val, 0, 0] S1x128x512.size (inb3 k)
/-- Rows `128 k` to `128 k + 127` of a block. -/
abbrev band (k : Fin 4) : Rect S512x512 := Rect.unit (s := S512x512) ![128 * k.val, 0] S128x512.size (inb2 k)

/-- Slab `k` of a buffer, as the 128 by 512 array the copies move. -/
abbrev chunk {e : EltTy} (M : Memref sig .tc .vmem S4x128x512 e) (k : Fin 4) : Memref sig .tc .vmem S128x512 e :=
  (M.slice (slab k) (fun _ => rfl)).squeeze S128x512 squeezes_S1x128x512_S128x512

abbrev xM : Memref sig .tc .hbm S512x512 .f32 := Memref.whole main_arg0
abbrev outM : Memref sig .tc .hbm S512x512 .bf16 := Memref.whole main_v1
abbrev xvM : Memref sig .tc .vmem S4x128x512 .f32 := Memref.whole cc0_scratch0
abbrev sM : Memref sig .tc .vmem S4x128x512 .bf16 := Memref.whole cc0_scratch1
abbrev tM : Memref sig .tc .vmem S4x128x512 .bf16 := Memref.whole cc0_scratch2
abbrev r1M : Memref sig .tc .vmem S4x128x512 .bf16 := Memref.whole cc0_scratch3
abbrev r2M : Memref sig .tc .vmem S4x128x512 .bf16 := Memref.whole cc0_scratch4
abbrev oM : Memref sig .tc .vmem S4x128x512 .bf16 := Memref.whole cc0_scratch5

/-- Band `k` of the input block and of the result block. -/
abbrev xC (k : Fin 4) : Memref sig .tc .hbm S128x512 .f32 := xM.slice (band k) (fun _ => rfl)
abbrev outC (k : Fin 4) : Memref sig .tc .hbm S128x512 .bf16 := outM.slice (band k) (fun _ => rfl)

/-! ## Semaphores -/

/-- The six arrays of copy semaphores: 0 copies in, 1 copies out, 2 and 3 the first round's sending and receiving side,
    4 and 5 the second round's. -/
abbrev semArr : Fin 6 → DmaSems sig S4 := fun
  | 0 => cc0_scratch6 | 1 => cc0_scratch7 | 2 => cc0_scratch8 | 3 => cc0_scratch9 | 4 => cc0_scratch10 | 5 => cc0_scratch11

/-- Semaphore `k` of array `j`. -/
abbrev dsem (j : Fin 6) (k : Fin 4) : DmaSem sig :=
  (((semArr j).slice (Rect.unit (s := S4) ![k.val] S1.size (inb1 k))).squeeze S_ squeezes_S1_S_).sem

/-- The barrier semaphore, one on each device. -/
abbrev barS : Sem sig := (SemArray.scalar (sig.barrier 0 rfl) : Sems sig S_).sem

/-- Which array and which place a copy semaphore has. -/
def decode (s : DmaSem sig) : Fin 6 × Fin 4 := (⟨s.val / 4, by have := s.isLt; simp only [sig] at this; omega⟩, ⟨s.val % 4, by omega⟩)

theorem decode_dsem (j : Fin 6) (k : Fin 4) : decode (dsem j k) = (j, k) := by revert j k; decide

theorem dsem_inj {j j' : Fin 6} {k k' : Fin 4} (h : dsem j k = dsem j' k') : j = j' ∧ k = k' := by
  have h' := congrArg decode h
  rw [decode_dsem, decode_dsem] at h'
  exact ⟨congrArg Prod.fst h', congrArg Prod.snd h'⟩

/-- Device `c`'s barrier semaphore and its semaphore `k` of array `j`. -/
abbrev bar (c : Dev nD) : GSem nD τ sig := ((c : Thread nD τ), .reg barS)
abbrev cell (c : Dev nD) (j : Fin 6) (k : Fin 4) : GSem nD τ sig := ((c : Thread nD τ), .dma (dsem j k))

/-! ## What a copy counts -/

/-- What a copy into a chunk of the input's staging buffer, into a band of the result, and between two bfloat16 chunks
    adds to its semaphore. -/
abbrev NI : ℕ := (chunk xvM 0).view.dmaCredit
abbrev NO : ℕ := (outC 0).view.dmaCredit
abbrev NR : ℕ := (chunk r1M 0).view.dmaCredit

/-- By array. -/
def amt (j : Fin 6) : ℕ := if j = 0 then NI else if j = 1 then NO else NR

theorem amt_pos (j : Fin 6) : 0 < amt j := by
  unfold amt
  split_ifs
  · exact View.dmaCredit_pos _ (by decide)
  · exact View.dmaCredit_pos _ (by decide)
  · exact View.dmaCredit_pos _ (by decide)

theorem credit_xv (k : Fin 4) : (chunk xvM k).view.dmaCredit = NI := rfl
theorem credit_out (k : Fin 4) : (outC k).view.dmaCredit = NO := rfl
theorem credit_s (k : Fin 4) : (chunk sM k).view.dmaCredit = NR := rfl
theorem credit_t (k : Fin 4) : (chunk tM k).view.dmaCredit = NR := rfl
theorem credit_r1 (k : Fin 4) : (chunk r1M k).view.dmaCredit = NR := rfl
theorem credit_r2 (k : Fin 4) : (chunk r2M k).view.dmaCredit = NR := rfl

/-! ## Contents -/

variable (m : (ℓ : Loc nD τ sig) → Buf (Elt F) ℓ)

/-- Band `k` of device `c`'s input block. -/
def X (c : Dev nD) (k : Fin 4) : FVec F S128x512 .f32 := (xC k).view.read (Elt F) (m ((c : Thread nD τ).loc main_arg0))
/-- The band rounded to bfloat16: what is sent in the first round. -/
def S (c : Dev nD) (k : Fin 4) : FVec F S128x512 .bf16 := truncf .bf16 (X m c k) bitsLt_bf16_f32
/-- Two devices' bands added: what is sent in the second round. -/
def T (c : Dev nD) (k : Fin 4) : FVec F S128x512 .bf16 := addf (S m c k) (S m (fst k c) k)
/-- Four devices' bands added: what the result holds. -/
def O (c : Dev nD) (k : Fin 4) : FVec F S128x512 .bf16 := addf (T m c k) (T m (snd k c) k)

end Cert.Exchange

end
-- ==== Proof.Schedule.lean ====
/-
# The schedule: who raises which semaphore, by how much, and what comes with it

Every semaphore is used once. A barrier semaphore is raised by one unit from either side; with its unit each neighbour hands
over the four chunks of its own landing buffers that the signalled device will write. A copy semaphore is raised by the one
copy that names it; with the raise come the chunks the copy wrote and the share of the source it borrowed.
-/
module

public import proofs.«01_k».proof.Proof.Common

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What comes with a raise -/

/-- Device `c` holds share `q` of a memref, which reads `V`. -/
abbrev holds (c : Dev nD) {sp : Space} {s : Shape} {e : EltTy} (M : Memref sig .tc sp s e) (q : PosShare TreeShare)
    (V : s.Idx → Elt F e) : sProp 𝕄 :=
  owns (Ix := Unit) (Name := ℕ) (U := UU) (Lvl := ℕ) (c : Thread nD τ) M q V
/-- Device `c` holds a memref whole, whatever it reads. -/
abbrev free (c : Dev nD) {sp : Space} {s : Shape} {e : EltTy} (M : Memref sig .tc sp s e) : sProp 𝕄 :=
  iprop(∃ V : s.Idx → Elt F e, holds c M fullShare V)

/-- What device `c`'s landing buffers take from its neighbour on side `b`, chunk `k`: the first round's chunk when `b` is
    the side of chunk `k`'s first round, else the second round's. -/
def landing (c : Dev nD) (b : Bool) (k : Fin 4) : sProp 𝕄 :=
  if late k = b then free c (chunk r1M k) else free c (chunk r2M k)

/-- With the barrier unit from side `b` device `c` receives that neighbour's landing chunks. -/
def barPay (c : Dev nD) (b : Bool) : sProp 𝕄 := bigSep Finset.univ fun k : Fin 4 => landing (F := F) (peer b c) b k

/-- With the raise of semaphore `k` of array `j` device `c` receives: -/
def copyPay (c : Dev nD) (k : Fin 4) : Fin 6 → sProp 𝕄
  -- its input band staged, and the band itself back
  | 0 => iprop(holds c (chunk xvM k) fullShare (X m c k) ∗ holds c (xC k) fullShare (X m c k))
  -- its result band written, and the chunk it was copied from
  | 1 => iprop(holds c (outC k) fullShare (O m c k) ∗ holds c (chunk oM k) fullShare (O m c k))
  -- the half of the rounded band the first round's copy borrowed
  | 2 => holds c (chunk sM k) fullShare.left (S m c k)
  -- the first neighbour's rounded band
  | 3 => holds c (chunk r1M k) fullShare (S m (fst k c) k)
  -- the half of the sum the second round's copy borrowed
  | 4 => holds c (chunk tM k) fullShare.left (T m c k)
  -- the second neighbour's sum
  | 5 => holds c (chunk r2M k) fullShare (T m (snd k c) k)

/-- By semaphore. -/
def pay (c : Dev nD) (b : Bool) : SemLoc sig → sProp 𝕄
  | .reg _ => barPay (F := F) c b
  | .dma s => copyPay m c (decode s).2 (decode s).1

/-- One round of duties: two on a barrier semaphore, one on a copy semaphore. -/
def duty : SemLoc sig → Finset Bool
  | .reg _ => Finset.univ
  | .dma _ => {false}

/-- By how much each raises it. -/
def units : SemLoc sig → ℕ
  | .reg _ => 1
  | .dma s => amt (decode s).1

/-- The schedule. -/
def plan : Rounds.Schedule (GSem nD τ sig) Bool 𝕄 where
  duties g r := if r = 0 then duty g.2 else ∅
  unitless _ := False
  amount g _ _ := units g.2
  payload g _ d := pay m g.1.1 d g.2
  amount_pos g _ _ _ := by
    show 0 < units g.2
    cases g.2 with
    | reg => exact Nat.one_pos
    | dma s => exact amt_pos _

instance landing_storable (c : Dev nD) (b : Bool) (k : Fin 4) : BI.Storable (upEmb : UEmb _ 𝕄) (landing (F := F) c b k) := by
  unfold landing; split <;> infer_instance
instance barPay_storable (c : Dev nD) (b : Bool) : BI.Storable (upEmb : UEmb _ 𝕄) (barPay (F := F) c b) := by
  unfold barPay; infer_instance
instance copyPay_storable (c : Dev nD) (k : Fin 4) (j : Fin 6) : BI.Storable (upEmb : UEmb _ 𝕄) (copyPay m c k j) := by
  fin_cases j <;> (unfold copyPay; infer_instance)
instance plan_storable (g : GSem nD τ sig) (r : ℕ) (d : Bool) : BI.Storable (upEmb : UEmb _ 𝕄) ((plan (F := F) m).payload g r d) := by
  show BI.Storable upEmb (pay m g.1.1 d g.2)
  cases g.2 <;> (unfold pay; infer_instance)

/-! ## The schedule read at each semaphore -/

theorem duties_bar (c : Dev nD) : (plan (F := F) m).duties (bar c) 0 = Finset.univ := rfl
theorem duties_cell (c : Dev nD) (j : Fin 6) (k : Fin 4) : (plan (F := F) m).duties (cell c j k) 0 = {false} := rfl
theorem duties_later (g : GSem nD τ sig) : ∀ r, 1 ≤ r → (plan (F := F) m).duties g r = ∅ :=
  fun r hr => if_neg (by omega)
theorem amount_bar (c : Dev nD) (d : Bool) : (plan (F := F) m).amount (bar c) 0 d = 1 := rfl
theorem amount_cell (c : Dev nD) (j : Fin 6) (k : Fin 4) (d : Bool) : (plan (F := F) m).amount (cell c j k) 0 d = amt j := by
  show amt (decode (dsem j k)).1 = amt j
  rw [decode_dsem]
theorem payload_bar (c : Dev nD) (d : Bool) : (plan (F := F) m).payload (bar c) 0 d = barPay c d := rfl
theorem payload_cell (c : Dev nD) (j : Fin 6) (k : Fin 4) (d : Bool) :
    (plan (F := F) m).payload (cell c j k) 0 d = copyPay m c k j := by
  show copyPay m c (decode (dsem j k)).2 (decode (dsem j k)).1 = _
  rw [decode_dsem]
theorem expect_bar (c : Dev nD) : (plan (F := F) m).expect (bar c) 0 = 2 := by
  unfold Schedule.expect Schedule.amountOf
  rw [duties_bar, Finset.sum_congr rfl fun d _ => amount_bar m c d]; rfl
theorem expect_cell (c : Dev nD) (j : Fin 6) (k : Fin 4) : (plan (F := F) m).expect (cell c j k) 0 = amt j := by
  unfold Schedule.expect Schedule.amountOf
  rw [duties_cell, Finset.sum_singleton, amount_cell]

/-- All that a copy semaphore's round brings. -/
theorem rest_cell (c : Dev nD) (j : Fin 6) (k : Fin 4) :
    bigSep ((plan (F := F) m).duties (cell c j k) 0 \ ∅) (fun d => (plan (F := F) m).payload (cell c j k) 0 d) = copyPay m c k j := by
  rw [Finset.sdiff_empty, duties_cell, bigSep_singleton, payload_cell]
/-- All that the barrier's round brings. -/
theorem rest_bar (c : Dev nD) :
    bigSep ((plan (F := F) m).duties (bar c) 0 \ ∅) (fun d => (plan (F := F) m).payload (bar c) 0 d)
      = iprop(barPay c false ∗ barPay c true) := by
  rw [Finset.sdiff_empty, duties_bar, bigSep_univ_eq_bigSepL [false, true] (by decide) (by decide), bigSepL_cons_cons, bigSepL_singleton]
  rfl

theorem swap_sep (P Q : sProp 𝕄) : iprop(P ∗ Q) ⊢ iprop(Q ∗ P) := by
  iintro ⟨HP, HQ⟩
  isplitl [HQ] <;> iassumption

/-- A device's landing buffers are what it hands over to its two neighbours. -/
theorem landing_give (c : Dev nD) :
    (bigSep Finset.univ fun k : Fin 4 => iprop(free (F := F) c (chunk r1M k) ∗ free (F := F) c (chunk r2M k)))
      ⊢ iprop(barPay (F := F) (peer false c) false ∗ barPay (F := F) (peer true c) true) := by
  unfold barPay
  rw [peer_peer, peer_peer, ← bigSep_sep']
  refine bigSep_mono fun k _ => ?_
  unfold landing
  cases late k
  · rw [if_pos rfl, if_neg (by decide)]; exact BI.Entails.refl _
  · rw [if_neg (by decide), if_pos rfl]
    exact swap_sep _ _
/-- What a device receives from its two neighbours is, for each chunk, where its two copies land. -/
theorem landing_take (c : Dev nD) :
    iprop(barPay (F := F) c false ∗ barPay (F := F) c true)
      ⊢ (bigSep Finset.univ fun k : Fin 4 => iprop(free (F := F) (fst k c) (chunk r1M k) ∗ free (F := F) (snd k c) (chunk r2M k))) := by
  unfold barPay
  rw [← bigSep_sep']
  refine bigSep_mono fun k _ => ?_
  unfold landing fst snd
  cases late k
  · rw [if_pos rfl, if_neg (by decide)]; exact BI.Entails.refl _
  · rw [if_neg (by decide), if_pos rfl]
    exact swap_sep _ _

/-! ## What a device owes, and the order of the waits -/

/-- The raise device `c`'s first-round copy of chunk `k` owes its neighbour, and the second-round copy's. -/
abbrev due1 (c : Dev nD) (k : Fin 4) : CellTallies nD τ sig Unit := tallyAt (cell (fst k c) 3 k) () (amt 3)
abbrev due2 (c : Dev nD) (k : Fin 4) : CellTallies nD τ sig Unit := tallyAt (cell (snd k c) 5 k) () (amt 5)
/-- All it owes for the second round, in the order 0, 2, 1, 3 from the right; -/
abbrev owed2 (c : Dev nD) : CellTallies nD τ sig Unit := 0 + due2 c 3 + due2 c 1 + due2 c 2 + due2 c 0
/-- with the first round's; -/
abbrev owed1 (c : Dev nD) : CellTallies nD τ sig Unit := owed2 c + due1 c 3 + due1 c 1 + due1 c 2 + due1 c 0
/-- with the two signals. -/
abbrev owed0 (c : Dev nD) : CellTallies nD τ sig Unit :=
  owed1 c + tallyAt (bar (peer true c)) () 1 + tallyAt (bar (peer false c)) () 1

/-- Only TensorCore semaphores are waited on. -/
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The order: the barrier below the first round's landings, those below the second round's, everything else below all. -/
def rank : SemLoc sig → ℕ
  | .reg _ => 1
  | .dma s => if (decode s).1 = 3 then 2 else if (decode s).1 = 5 then 3 else 0
def lv (g : GSem nD τ sig) (_ : Unit) : ℕ := rank g.2

theorem lv_bar (c : Dev nD) (u : Unit) : lv (bar c) u = 1 := rfl
theorem lv_cell (c : Dev nD) (j : Fin 6) (k : Fin 4) (u : Unit) : lv (cell c j k) u = if j = 3 then 2 else if j = 5 then 3 else 0 := by
  show (if (decode (dsem j k)).1 = 3 then 2 else if (decode (dsem j k)).1 = 5 then 3 else 0) = _
  rw [decode_dsem]

/-- Everything owed is owed to semaphores above rank `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tally {n : ℕ} (c : Dev nD) (sm : SemLoc sig) (a : ℕ) (h : n < rank sm) :
    Above n (tallyAt ((c : Thread nD τ), sm) () a) := by
  intro g u hg
  rw [tallyAt_apply] at hg
  by_cases hc : g = ((c : Thread nD τ), sm) ∧ u = ()
  · rw [hc.1, L_tc]
    exact ⟨Finset.mem_singleton_self _, h⟩
  · rw [if_neg hc] at hg; exact absurd hg (Nat.lt_irrefl 0)

theorem above_due1 {n : ℕ} (hn : n < 2) (c : Dev nD) (k : Fin 4) : Above n (due1 c k) :=
  above_tally _ _ _ (by show n < lv (cell (fst k c) 3 k) (); rw [lv_cell]; exact hn)
theorem above_due2 {n : ℕ} (hn : n < 3) (c : Dev nD) (k : Fin 4) : Above n (due2 c k) :=
  above_tally _ _ _ (by show n < lv (cell (snd k c) 5 k) (); rw [lv_cell]; exact hn)
theorem above_owed2 {n : ℕ} (hn : n < 3) (c : Dev nD) : Above n (owed2 c) :=
  above_add (above_add (above_add (above_add (above_zero n) (above_due2 hn c 3)) (above_due2 hn c 1)) (above_due2 hn c 2)) (above_due2 hn c 0)
theorem above_owed1 {n : ℕ} (hn : n < 2) (c : Dev nD) : Above n (owed1 c) :=
  above_add (above_add (above_add (above_add (above_owed2 (by omega) c) (above_due1 hn c 3)) (above_due1 hn c 1)) (above_due1 hn c 2)) (above_due1 hn c 0)

/-- A wait on a semaphore whose rank is below all that is owed. -/
theorem mayWait (c : Dev nD) (sm : SemLoc sig) {n : ℕ} {O : CellTallies nD τ sig Unit} (hs : rank sm ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

end Cert.Exchange

end
-- ==== Proof.Program.lean ====
/-
# The kernel's body, one stage per chunk

The printed body is four stages, each run for chunks 0, 2, 1, 3 in that order, between the two signals at the start and the
twelve waits at the end. The stages are written here once, for any chunk, and `body_eq` says the printed body is their
sequence.
-/
module

public import proofs.«01_k».proof.Proof.Common
public import proofs.«01_k».proof.Proof.Gen.KernelIdeal.Points

@[expose] public section

noncomputable section

namespace Cert.Exchange

open Cert.KernelIdeal Cert.KernelIdeal.Gen

open Idealize.ShloMosaic Idealize.ShloMosaic.TcCoe
open Idealize.SL.Sem

variable {F : FTy → Type} [FloatOps F]

abbrev Run (F : FTy → Type) [FloatOps F] : Type 1 := Prog (TpuEff nD τ sig (Elt F) Λ₀ .tc) PUnit

/-! ## Side conditions of a chunk's loads, stores and copies -/

theorem packed (k : Fin 4) : (slab k).PackedRows (EltTy.packing .bf16) := by revert k; decide
theorem words (k : Fin 4) : (slab k).WholeWords (EltTy.packing .bf16) := by revert k; decide
theorem words_band (k : Fin 4) : (band k).WholeWords (EltTy.packing .bf16) := by revert k; decide

theorem exact_x (k : Fin 4) : (xC k).view.WordExact := View.wordExact_bits rfl
theorem exact_xv (k : Fin 4) : (chunk xvM k).view.WordExact := (View.wordExact_bits rfl).reshape _ _
theorem exact_out (k : Fin 4) : (outC k).view.WordExact := (Memref.isWhole_whole _).wordExact_slice rfl _ (words_band k)
theorem exact_chunk {M : Memref sig .tc .vmem S4x128x512 .bf16} (h : M.IsWhole) (k : Fin 4) : (chunk M k).view.WordExact :=
  (h.wordExact_slice rfl _ (words k)).reshape _ _

/-- Slab `k` of a buffer read, -/
abbrev loadP {e : EltTy} (M : Memref sig .tc .vmem S4x128x512 e) (k : Fin 4) :
    Prog (TpuEff nD τ sig (Elt F) Λ₀ .tc) (Vec F S1x128x512 e) :=
  Prog.lift (.load M (slab k).toLoadRect (View.loadsAt_vmem h_S1x128x512))
/-- and written. -/
abbrev storeP {M : Memref sig .tc .vmem S4x128x512 .bf16} (h : M.IsWhole) (k : Fin 4) (v : FVec F S1x128x512 .bf16) : Run F :=
  Prog.lift (.store M (slab k) v Finset.univ (View.stores_vmem h_S1x128x512 (h.storeExact_slice rfl _ (packed k)) (fun _ => rfl)) (.inl rfl))
/-- Chunk `k` of one buffer copied to the same chunk of another buffer on device `d`. -/
abbrev sendP {M M' : Memref sig .tc .vmem S4x128x512 .bf16} (h : M.IsWhole) (h' : M'.IsWhole)
    (hs : M'.view.ref.isScScratch = false) (d : Dev nD) (j j' : Fin 6) (k : Fin 4) : Run F :=
  Prog.lift (.enqueueDma (chunk M k) (.remote (Dev.tc d) (chunk M' k) (.dma (dsem j k)) hs) (.dma (dsem j' k))
    (exact_chunk h k) (exact_chunk h' k) ⟨⟨rfl, Or.inl rfl⟩, trivial⟩)

/-! ## The stages -/

/-- Band `k` of the input starts into its staging chunk. -/
def fillP (k : Fin 4) : Run F :=
  Prog.lift (.enqueueDma (xC k) (.here (chunk xvM k)) (.dma (dsem 0 k)) (exact_x k) (exact_xv k) ⟨Or.inl rfl, trivial⟩)

/-- Chunk `k` arrived, rounded, and sent to device `d`. -/
def castP (d : Dev nD) (k : Fin 4) : Run F := do
  Prog.lift (.waitDma2 (dsem 0 k) (xC k) (chunk xvM k) (exact_x k) (exact_xv k))
  let v ← loadP xvM k
  let _ ← loadP sM k
  storeP (Memref.isWhole_whole cc0_scratch1) k (k0_pay1 v)
  sendP (Memref.isWhole_whole cc0_scratch1) (Memref.isWhole_whole cc0_scratch3) rfl d 2 3 k

/-- The first neighbour's chunk arrived, added to the own one, and the sum sent to device `d`. -/
def addP (d : Dev nD) (k : Fin 4) : Run F := do
  Prog.lift (.waitDma2 (dsem 3 k) (chunk sM k) (chunk r1M k) (exact_chunk (Memref.isWhole_whole cc0_scratch1) k) (exact_chunk (Memref.isWhole_whole cc0_scratch3) k))
  let v ← loadP sM k
  let w ← loadP r1M k
  let _ ← loadP tM k
  storeP (Memref.isWhole_whole cc0_scratch2) k (k0_pay5 v w)
  sendP (Memref.isWhole_whole cc0_scratch2) (Memref.isWhole_whole cc0_scratch4) rfl d 4 5 k

/-- The second neighbour's sum arrived, added to the own one, and the result started into its band. -/
def drainP (k : Fin 4) : Run F := do
  Prog.lift (.waitDma2 (dsem 5 k) (chunk tM k) (chunk r2M k) (exact_chunk (Memref.isWhole_whole cc0_scratch2) k) (exact_chunk (Memref.isWhole_whole cc0_scratch4) k))
  let v ← loadP tM k
  let w ← loadP r2M k
  let _ ← loadP oM k
  storeP (Memref.isWhole_whole cc0_scratch5) k (k0_pay9 v w)
  Prog.lift (.enqueueDma (chunk oM k) (.here (outC k)) (.dma (dsem 1 k)) (exact_chunk (Memref.isWhole_whole cc0_scratch5) k) (exact_out k) ⟨Or.inl rfl, trivial⟩)

/-- Band `k` of the result written; the first round's chunk sent; the second round's. -/
def outDoneP (k : Fin 4) : Run F :=
  Prog.lift (.waitDma2 (dsem 1 k) (chunk oM k) (outC k) (exact_chunk (Memref.isWhole_whole cc0_scratch5) k) (exact_out k))
def sent1P (k : Fin 4) : Run F :=
  Prog.lift (.waitDma2 (dsem 2 k) (chunk r1M k) (chunk sM k) (exact_chunk (Memref.isWhole_whole cc0_scratch3) k) (exact_chunk (Memref.isWhole_whole cc0_scratch1) k))
def sent2P (k : Fin 4) : Run F :=
  Prog.lift (.waitDma2 (dsem 4 k) (chunk r2M k) (chunk tM k) (exact_chunk (Memref.isWhole_whole cc0_scratch4) k) (exact_chunk (Memref.isWhole_whole cc0_scratch2) k))

/-- The barrier: a unit to either neighbour, -/
def signalP (d : Dev nD) : Run F := semSignalWord d barS 1#32
/-- and two units awaited. -/
def barrierP : Run F := semWaitWord barS 2#32

/-- The body, on the device it reads its number from. -/
def bodyP : Run F := do
  let d ← Prog.lift .deviceId
  signalP ⟨k0_dev1 d, k0_dev1_lt d⟩
  signalP ⟨k0_dev2 d, k0_dev2_lt d⟩
  fillP 0
  fillP 2
  fillP 1
  fillP 3
  barrierP
  castP ⟨k0_dev3 d, k0_dev3_lt d⟩ 0
  castP ⟨k0_dev4 d, k0_dev4_lt d⟩ 2
  castP ⟨k0_dev5 d, k0_dev5_lt d⟩ 1
  castP ⟨k0_dev6 d, k0_dev6_lt d⟩ 3
  addP ⟨k0_dev7 d, k0_dev7_lt d⟩ 0
  addP ⟨k0_dev8 d, k0_dev8_lt d⟩ 2
  addP ⟨k0_dev9 d, k0_dev9_lt d⟩ 1
  addP ⟨k0_dev10 d, k0_dev10_lt d⟩ 3
  drainP 0
  drainP 2
  drainP 1
  drainP 3
  outDoneP 0
  outDoneP 1
  outDoneP 2
  outDoneP 3
  sent1P 0
  sent1P 1
  sent1P 2
  sent1P 3
  sent2P 0
  sent2P 1
  sent2P 2
  sent2P 3
  pure ⟨⟩

set_option maxRecDepth 65536 in
/-- The printed body is the sequence of stages. -/
theorem body_eq : bodyAt0 (F := F) t0_0 = bodyP := by
  rfl

end Cert.Exchange

end
-- ==== Proof.Rules.lean ====
/-
# One operation of a stage

What a device may do with one chunk: wait on one of its copy semaphores, load a slab, store a slab, start a copy within the
device, start a copy to a neighbour. Each rule is stated for every chunk.
-/
module

public import proofs.«01_k».proof.Proof.Schedule
public import proofs.«01_k».proof.Proof.Program

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every rule may use -/

/-- The semaphores of a device: the barrier's, and those of the copies. -/
abbrev Slot : Type := Option (Fin 6 × Fin 4)
/-- A device's semaphore. -/
def at_ (p : Dev nD × Slot) : GSem nD τ sig := match p.2 with
  | none => bar p.1
  | some s => cell p.1 s.1 s.2

variable (K : Dev nD × Slot → ℕ)

/-- Every semaphore's invariant, under the names `K`, and that every semaphore has reached its round. -/
def records : sProp 𝕄 :=
  iprop((bigSep Finset.univ fun p : Dev nD × Slot => cellInv ER (plan m) (K p) (at_ p))
    ∗ (bigSep Finset.univ fun p : Dev nD × Slot => reached ER (at_ p) 0) ∗ levAts L lv)

instance records_persistent : BI.Persistent (records m K) := by unfold records; infer_instance

theorem records_inv (p : Dev nD × Slot) : records m K ⊢ cellInv ER (plan m) (K p) (at_ p) := by
  unfold records
  iintro ⟨H, -, -⟩
  iapply (show (bigSep Finset.univ fun p : Dev nD × Slot => cellInv ER (plan m) (K p) (at_ p)) ⊢ cellInv ER (plan m) (K p) (at_ p) from bigSep_elim (Finset.mem_univ p)); iexact H
theorem records_reached (p : Dev nD × Slot) : records m K ⊢ reached ER (at_ p) 0 := by
  unfold records
  iintro ⟨-, H, -⟩
  iapply (show (bigSep Finset.univ fun p : Dev nD × Slot => (reached ER (at_ p) 0 : sProp 𝕄)) ⊢ reached ER (at_ p) 0 from bigSep_elim (Finset.mem_univ p)); iexact H
theorem records_lev : records m K ⊢ levAts L lv := by
  unfold records
  iintro ⟨-, -, H⟩
  iexact H

/-- What device `c` still owes, whatever it has waited on so far. -/
abbrev debt (c : Dev nD) (D : CellTallies nD τ sig Unit) : sProp 𝕄 :=
  iprop(∃ W : Waits sig Unit, owes (c : Thread nD τ) D W)
/-- The units a copy semaphore's raise grants to the one who waits on it. -/
abbrev credit (c : Dev nD) (j : Fin 6) (k : Fin 4) : sProp 𝕄 := cred (tallyAt (cell c j k) () (amt j))
/-- Device `c` has not waited on its copy semaphore yet; it has. -/
abbrev before (c : Dev nD) (j : Fin 6) (k : Fin 4) : sProp 𝕄 := atPos ER (cell c j k) 0 ∅ 0
abbrev after (c : Dev nD) (j : Fin 6) (k : Fin 4) : sProp 𝕄 := atPos ER (cell c j k) 1 ∅ 0
/-- The right to raise a copy semaphore. -/
abbrev turn (c : Dev nD) (j : Fin 6) (k : Fin 4) : sProp 𝕄 := dutyTok ER (cell c j k) 0 false

/-- Device `c` runs `p` and then has `Q` of what `p` returns. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Waits -/

/-- A wait on a copy semaphore of rank below all that is owed brings the semaphore's payload. -/
theorem wait_cell (c : Dev nD) (j : Fin 6) (k : Fin 4) {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (.dma (dsem j k)) (amt j) Kt)
    {n : ℕ} {D : CellTallies nD τ sig Unit} (hr : rank (.dma (dsem j k)) ≤ n) (hD : Above n D) (Q : PUnit → sProp 𝕄) :
    iprop(records m K ∗ credit c j k ∗ debt c D ∗ before c j k
        ∗ ((debt c D ∗ after c j k ∗ copyPay m c k j) -∗ Q ⟨⟩))
      ⊢ runs c (Prog.lift w) Q := by
  iintro ⟨#Hrec, Hc, ⟨%W, HO⟩, Hat, Hk⟩
  ihave #HI := (records_inv m K (c, some (j, k))) $$ Hrec
  iapply (Rounds.wp_wait_rest_token 𝒱₀ ER (plan m) (c : Thread nD τ) none (κ := K (c, some (j, k)))
      hw (Set.mem_univ _) () (O := D) (W := W) (R := 0) (m := 0) (T := ∅)
      (by rw [Nat.zero_add]; exact (expect_cell m c j k).symm)) $$ [Hc HO Hat]
  · isplitr; · iexact HI
    isplitl [Hc]; · iexact Hc
    isplitl [HO]; · iexact HO
    isplitr
    · iapply (mayWait c (.dma (dsem j k)) hr hD); iapply (records_lev m K); iexact Hrec
    iexact Hat
  iintro ⟨HO, Hat, -, Hpay⟩
  ihave Hp := (Entails.of_eq (rest_cell m c j k)) $$ Hpay
  rw [wp_ret]; imodintro
  iapply Hk
  isplitl [HO]; · iexists _; iexact HO
  isplitl [Hat]; · iexact Hat
  iexact Hp

/-- The same for the wait as the kernel writes it: the semaphore is lowered by what a copy into `dst` counts. -/
theorem wait_dma (c : Dev nD) (j : Fin 6) (k : Fin 4) {sp sp' : Space} {s s' : Shape} {e e' : EltTy} (src : Memref sig .tc sp' s' e')
    (dst : Memref sig .tc sp s e) (hs : src.view.WordExact) (hd : dst.view.WordExact) (hN : dst.view.dmaCredit = amt j)
    {n : ℕ} {D : CellTallies nD τ sig Unit} (hr : rank (.dma (dsem j k)) ≤ n) (hD : Above n D) (Q : PUnit → sProp 𝕄) :
    iprop(records m K ∗ credit c j k ∗ debt c D ∗ before c j k
        ∗ ((debt c D ∗ after c j k ∗ copyPay m c k j) -∗ Q ⟨⟩))
      ⊢ runs c (Prog.lift (.waitDma2 (dsem j k) src dst hs hd)) Q :=
  wait_cell m K c j k (fun Kt => by rw [← hN]; exact wpE_waitDma2_eq 𝒱₀ (c : Thread nD τ) none Set.univ Kt) hr hD Q

/-! ## Loads and stores -/

/-- The slab as a 128 by 512 array. -/
abbrev flat {e : EltTy} (v : Vec F S1x128x512 e) : Vec F S128x512 e := shapeCast S128x512 v shapeCasts_S1x128x512_S128x512

theorem chunk_set {e : EltTy} (M : Memref sig .tc .vmem S4x128x512 e) (k : Fin 4) :
    (chunk M k).view.set = (M.access (slab k)).set := View.set_reshape _ _

/-- A load of a slab whose chunk is held returns what the chunk reads. -/
theorem load_slab (c : Dev nD) {e : EltTy} (M : Memref sig .tc .vmem S4x128x512 e) (k : Fin 4) (q : PosShare TreeShare)
    (V : Vec F S128x512 e) (Q : Vec F S1x128x512 e → sProp 𝕄) :
    iprop(holds c (chunk M k) q V ∗ (∀ v, ⌜flat v = V⌝ -∗ holds c (chunk M k) q V -∗ Q v))
      ⊢ runs c (loadP M k) Q := by
  unfold holds owns
  iintro ⟨⟨%f, %hf, H⟩, Hk⟩
  iapply (wp_load 𝒱₀ (c : Thread nD τ) none Set.univ (m := M) (r := (slab k).toLoadRect) (S := (chunk M k).view.set) (f := f) (q := q)
    (by rw [chunk_set, View.set_slice]; exact Finset.Subset.refl _)) $$ H
  iintro H
  rw [wp_ret]; imodintro
  iapply Hk $$ %(M.view.readAt (Elt F) (slab k).toLoadRect f)
  · ipureintro; exact hf
  iexists f
  isplitr; · ipureintro; exact hf
  iexact H

/-- A store to a slab whose chunk is held leaves the chunk reading what was stored. -/
theorem store_slab (c : Dev nD) {M : Memref sig .tc .vmem S4x128x512 .bf16} (h : M.IsWhole) (k : Fin 4) (v : FVec F S1x128x512 .bf16)
    (Q : PUnit → sProp 𝕄) :
    iprop(free c (chunk M k) ∗ (holds c (chunk M k) fullShare (flat v) -∗ Q ⟨⟩))
      ⊢ runs c (storeP h k v) Q := by
  unfold free holds owns
  iintro ⟨⟨%V, %f, %hf, H⟩, Hk⟩
  iapply (wp_store 𝒱₀ (c : Thread nD τ) none Set.univ (m := M) (r := slab k) (Mk := Finset.univ) (S := (chunk M k).view.set) (f := f)
    (by rw [chunk_set]; exact Finset.Subset.refl _)) $$ H
  iintro H
  rw [wp_ret]; imodintro
  iapply Hk
  iexists _
  isplitr
  · ipureintro
    exact congrArg (fun w => shapeCast S128x512 w shapeCasts_S1x128x512_S128x512) (View.read_write_univ (v := M.access (slab k)) f v)
  iexact H

/-! ## Copies -/

/-- Buffer contents that read `V` through a memref are the memref held at `V`. -/
theorem holds_of (c : Dev nD) {sp : Space} {s : Shape} {e : EltTy} (M : Memref sig .tc sp s e) (q : PosShare TreeShare)
    {V : s.Idx → Elt F e} {f : M.view.ty.Contents (Elt F)} (hf : M.view.read (Elt F) f = V) :
    (M.view.loc (c : Thread nD τ) ↦[M.view.set]{q} f : sProp 𝕄) ⊢ holds c M q V := by
  unfold holds owns
  iintro H
  iexists f
  isplitr; · ipureintro; exact hf
  iexact H

/-- A copy within the device: the source whole, the destination whatever it reads. -/
theorem copy_here (c : Dev nD) {sp sp' : Space} {e : EltTy} {src : Memref sig .tc sp S128x512 e} {dst : Memref sig .tc sp' S128x512 e}
    {hs : src.view.WordExact} {hd : dst.view.WordExact} (j : Fin 6) (k : Fin 4)
    {ht : DmaTarget.Typed (nD := nD) (τ := τ) (p := .tc) sp (.dma (dsem j k)) (.here dst)} (V : S128x512.Idx → Elt F e)
    (hN : dst.view.amount (.dma (dsem j k)) = amt j)
    (hpay : iprop(holds c dst fullShare V ∗ holds c src fullShare V) ⊢ copyPay m c k j) (Q : PUnit → sProp 𝕄) :
    iprop(records m K ∗ holds c src fullShare V ∗ free c dst ∗ turn c j k ∗ (credit c j k -∗ Q ⟨⟩))
      ⊢ runs c (Prog.lift (.enqueueDma src (.here dst) (.dma (dsem j k)) hs hd ht)) Q := by
  unfold free holds owns
  iintro ⟨#Hrec, ⟨%fs, %hfs, Hs⟩, ⟨%V', %fd, %hfd, Hd⟩, Ht, Hk⟩
  ihave #HI := (records_inv m K (c, some (j, k))) $$ Hrec
  ihave #HR := (records_reached m K (c, some (j, k))) $$ Hrec
  iapply (Rounds.wp_copy_pointsTo 𝒱₀ ER (plan m) (c : Thread nD τ) none (κ := K (c, some (j, k))) (q := fullShare) (fs := fs) (fd := fd)
      (r := 0) (d := false) (by rw [duties_cell]; exact Finset.mem_singleton_self _) () (amt j) hN (amount_cell m c j k false)
      (by
        rw [payload_cell]
        exact (BIClass.sep_mono (holds_of c dst _ ((View.read_write_univ _ _).trans hfs)) (holds_of c src _ hfs)).trans hpay)) $$ [Hs Hd Ht]
  · isplitr; · iexact HI
    isplitl [Hs]; · iexact Hs
    isplitl [Hd]; · iexact Hd
    isplitl [Ht]; · iexact Ht
    iexact HR
  iintro Hc
  rw [wp_ret]; imodintro
  iapply Hk; iexact Hc

/-- A copy to a neighbour `d`: half the source, the destination on `d` whatever it reads, and the raise the device owes `d`. -/
theorem send_chunk (c d n : Dev nD) (hn : n = d) {M M' : Memref sig .tc .vmem S4x128x512 .bf16} (h : M.IsWhole) (h' : M'.IsWhole)
    (hsc : M'.view.ref.isScScratch = false) (j j' : Fin 6) (k : Fin 4) (V : S128x512.Idx → Elt F .bf16)
    (hN : (chunk M' k).view.amount (.dma (dsem j' k)) = amt j') (hj : amt j = amt j')
    (hpay : holds c (chunk M k) fullShare.left V ⊢ copyPay m c k j)
    (hpay' : holds d (chunk M' k) fullShare V ⊢ copyPay m d k j') (D : CellTallies nD τ sig Unit) (Q : PUnit → sProp 𝕄) :
    iprop(records m K ∗ holds c (chunk M k) fullShare.left V ∗ free d (chunk M' k)
        ∗ debt c (D + tallyAt (cell d j' k) () (amt j')) ∗ turn c j k ∗ turn d j' k
        ∗ ((credit c j k ∗ debt c D) -∗ Q ⟨⟩))
      ⊢ runs c (sendP h h' hsc n j j' k) Q := by
  subst hn
  unfold free holds owns
  iintro ⟨#Hrec, ⟨%fs, %hfs, Hs⟩, ⟨%V', %fd, %hfd, Hd⟩, ⟨%W, HO⟩, Ht, Ht', Hk⟩
  ihave #HI := (records_inv m K (c, some (j, k))) $$ Hrec
  ihave #HR := (records_reached m K (c, some (j, k))) $$ Hrec
  ihave #HI' := (records_inv m K (n, some (j', k))) $$ Hrec
  ihave #HR' := (records_reached m K (n, some (j', k))) $$ Hrec
  iapply (Rounds.wp_send_pointsTo 𝒱₀ ER (plan m) (c : Thread nD τ) none (c' := (n : Thread nD τ)) (κ₁ := K (c, some (j, k))) (κ₂ := K (n, some (j', k)))
      (q := fullShare.left) (fs := fs) (fd := fd) (r₁ := 0) (r₂ := 0) (d₁ := false) (d₂ := false)
      (by rw [duties_cell]; exact Finset.mem_singleton_self _) (by rw [duties_cell]; exact Finset.mem_singleton_self _)
      () () (amt j') hN ((amount_cell m c j k false).trans hj) (amount_cell m n j' k false) D rfl (W := W)
      (by
        rw [payload_cell]
        exact (holds_of c (chunk M k) _ hfs).trans hpay)
      (by
        rw [payload_cell]
        exact (holds_of n (chunk M' k) _ ((View.read_write_univ _ _).trans hfs)).trans hpay')) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  rw [wp_ret]; imodintro
  iapply Hk
  isplitl [Hc]
  · unfold credit; rw [hj]; iexact Hc
  iexists W; iexact HO

end Cert.Exchange

end
-- ==== Proof.Steps.lean ====
/-
# The stages

What each stage of the body needs of chunk `k` and what it leaves.
-/
module

public import proofs.«01_k».proof.Proof.Rules

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-! ## What the stages compute -/

/-- The first stage stores the rounded chunk, -/
theorem flat_cast (v : Vec F S1x128x512 .f32) : flat (F := F) (e := .bf16) (k0_pay1 v) = truncf .bf16 (flat v : FVec F S128x512 .f32) bitsLt_bf16_f32 := by
  unfold k0_pay1; exact shapeCast_shapeCast _ _ _
/-- the second the sum of two chunks, -/
theorem flat_add (v w : Vec F S1x128x512 .bf16) : flat (F := F) (e := .bf16) (k0_pay5 v w) = addf (flat v : FVec F S128x512 .bf16) (flat w) := by
  unfold k0_pay5; exact shapeCast_shapeCast _ _ _
/-- and so does the third. -/
theorem flat_out (v w : Vec F S1x128x512 .bf16) : flat (F := F) (e := .bf16) (k0_pay9 v w) = addf (flat v : FVec F S128x512 .bf16) (flat w) := by
  unfold k0_pay9; exact shapeCast_shapeCast _ _ _

theorem S_eq (c : Dev nD) (k : Fin 4) : S m c k = truncf .bf16 (X m c k) bitsLt_bf16_f32 := rfl
theorem T_eq (c : Dev nD) (k : Fin 4) : T m c k = addf (S m c k) (S m (fst k c) k) := rfl
theorem O_eq (c : Dev nD) (k : Fin 4) : O m c k = addf (T m c k) (T m (snd k c) k) := rfl

theorem amt0 : amt 0 = NI := rfl
theorem amt1 : amt 1 = NO := rfl

theorem rank_cell (j : Fin 6) (k : Fin 4) : rank (.dma (dsem j k)) = if j = 3 then 2 else if j = 5 then 3 else 0 := lv_cell 0 j k ()

/-- A chunk held whole is two halves. -/
theorem halve (c : Dev nD) {sp : Space} {s : Shape} {e : EltTy} (M : Memref sig .tc sp s e) (V : s.Idx → Elt F e) :
    holds c M fullShare V ⊢ iprop(holds c M fullShare.left V ∗ holds c M fullShare.right V) := (owns_halves (Ix := Unit) (Name := ℕ) (U := UU) (Lvl := ℕ) (c : Thread nD τ) M fullShare V).1
theorem unhalve (c : Dev nD) {sp : Space} {s : Shape} {e : EltTy} (M : Memref sig .tc sp s e) (V : s.Idx → Elt F e) :
    iprop(holds c M fullShare.left V ∗ holds c M fullShare.right V) ⊢ holds c M fullShare V := (owns_halves (Ix := Unit) (Name := ℕ) (U := UU) (Lvl := ℕ) (c : Thread nD τ) M fullShare V).2

/-! ## Filling -/

/-- Band `k` of the input starts into its staging chunk. -/
theorem fill_step (c : Dev nD) (k : Fin 4) (Q : PUnit → sProp 𝕄) :
    iprop(records m K ∗ holds c (xC k) fullShare (X m c k) ∗ free c (chunk xvM k) ∗ turn c 0 k ∗ (credit c 0 k -∗ Q ⟨⟩))
      ⊢ runs c (fillP k) Q :=
  copy_here m K c 0 k (X m c k) ((credit_xv k).trans amt0.symm) (BIBase.Entails.refl) Q

/-! ## Rounding and the first round's copy -/

/-- What rounding chunk `k` needs, -/
def castPre (c : Dev nD) (k : Fin 4) : sProp 𝕄 :=
  iprop(credit c 0 k ∗ before c 0 k ∗ free c (chunk sM k) ∗ free (fst k c) (chunk r1M k) ∗ turn c 2 k ∗ turn (fst k c) 3 k)
/-- and what it leaves. -/
def castPost (c : Dev nD) (k : Fin 4) : sProp 𝕄 :=
  iprop(after c 0 k ∗ holds c (chunk xvM k) fullShare (X m c k) ∗ holds c (xC k) fullShare (X m c k)
    ∗ holds c (chunk sM k) fullShare.right (S m c k) ∗ credit c 2 k)

/-- Chunk `k` arrives, is rounded and sent to the first neighbour. -/
theorem cast_step (c n : Dev nD) (k : Fin 4) (hn : n = fst k c) (D : CellTallies nD τ sig Unit) (hD : Above 0 (D + due1 c k)) (Q : PUnit → sProp 𝕄) :
    iprop(records m K ∗ castPre c k ∗ debt c (D + due1 c k) ∗ ((castPost m c k ∗ debt c D) -∗ Q ⟨⟩))
      ⊢ runs c (castP n k) Q := by
  unfold castP runs castPre
  simp only [wp_bind]
  iintro ⟨#Hrec, ⟨Hc, Hat, Hs, Hr, Ht, Ht'⟩, HO, Hk⟩
  iapply (wait_dma m K c 0 k (xC k) (chunk xvM k) (exact_x k) (exact_xv k) (credit_xv k) (le_of_eq (rank_cell 0 k)) hD)
  isplitr; · iexact Hrec
  isplitl [Hc]; · iexact Hc
  isplitl [HO]; · iexact HO
  isplitl [Hat]; · iexact Hat
  iintro ⟨HO, Hat, Hp⟩
  unfold copyPay
  icases Hp with ⟨Hxv, Hx⟩
  iapply (load_slab c xvM k fullShare (X m c k))
  isplitl [Hxv]; · iexact Hxv
  iintro %v %hv Hxv
  icases Hs with ⟨%V0, Hs⟩
  iapply (load_slab c sM k fullShare V0)
  isplitl [Hs]; · iexact Hs
  iintro %u %hu Hs
  iapply (store_slab c (Memref.isWhole_whole cc0_scratch1) k (k0_pay1 v))
  isplitl [Hs]; · iexists V0; iexact Hs
  rw [flat_cast v, hv, ← S_eq m c k]
  iintro Hs
  ihave Hs2 := (halve c (chunk sM k) (S m c k)) $$ Hs
  icases Hs2 with ⟨Hl, Hs⟩
  iapply (send_chunk m K c (fst k c) n hn (Memref.isWhole_whole cc0_scratch1) (Memref.isWhole_whole cc0_scratch3) rfl 2 3 k (S m c k)
    (credit_r1 k) rfl (BIBase.Entails.refl) (by unfold copyPay fst; rw [peer_peer]) D)
  isplitr; · iexact Hrec
  isplitl [Hl]; · iexact Hl
  isplitl [Hr]; · iexact Hr
  isplitl [HO]; · iexact HO
  isplitl [Ht]; · iexact Ht
  isplitl [Ht']; · iexact Ht'
  iintro ⟨Hcs, HO⟩
  iapply Hk
  isplitr [HO]
  · unfold castPost
    isplitl [Hat]; · iexact Hat
    isplitl [Hxv]; · iexact Hxv
    isplitl [Hx]; · iexact Hx
    isplitl [Hs]; · iexact Hs
    iexact Hcs
  iexact HO

/-! ## The first sum and the second round's copy -/

/-- What the first sum of chunk `k` needs, -/
def addPre (c : Dev nD) (k : Fin 4) : sProp 𝕄 :=
  iprop(credit c 3 k ∗ before c 3 k ∗ holds c (chunk sM k) fullShare.right (S m c k) ∗ free c (chunk tM k) ∗ free (snd k c) (chunk r2M k)
    ∗ turn c 4 k ∗ turn (snd k c) 5 k)
/-- and what it leaves. -/
def addPost (c : Dev nD) (k : Fin 4) : sProp 𝕄 :=
  iprop(after c 3 k ∗ holds c (chunk r1M k) fullShare (S m (fst k c) k) ∗ holds c (chunk sM k) fullShare.right (S m c k)
    ∗ holds c (chunk tM k) fullShare.right (T m c k) ∗ credit c 4 k)

/-- The first neighbour's chunk arrives, is added to the own one, and the sum is sent to the second neighbour. -/
theorem add_step (c n : Dev nD) (k : Fin 4) (hn : n = snd k c) (D : CellTallies nD τ sig Unit) (hD : Above 2 (D + due2 c k)) (Q : PUnit → sProp 𝕄) :
    iprop(records m K ∗ addPre m c k ∗ debt c (D + due2 c k) ∗ ((addPost m c k ∗ debt c D) -∗ Q ⟨⟩))
      ⊢ runs c (addP n k) Q := by
  unfold addP runs addPre
  simp only [wp_bind]
  iintro ⟨#Hrec, ⟨Hc, Hat, Hs, Htf, Hr, Ht, Ht'⟩, HO, Hk⟩
  iapply (wait_dma m K c 3 k (chunk sM k) (chunk r1M k) (exact_chunk (Memref.isWhole_whole cc0_scratch1) k) (exact_chunk (Memref.isWhole_whole cc0_scratch3) k) (credit_r1 k) (le_of_eq (rank_cell 3 k)) hD)
  isplitr; · iexact Hrec
  isplitl [Hc]; · iexact Hc
  isplitl [HO]; · iexact HO
  isplitl [Hat]; · iexact Hat
  iintro ⟨HO, Hat, Hr1⟩
  unfold copyPay
  iapply (load_slab c sM k fullShare.right (S m c k))
  isplitl [Hs]; · iexact Hs
  iintro %v %hv Hs
  iapply (load_slab c r1M k fullShare (S m (fst k c) k))
  isplitl [Hr1]; · iexact Hr1
  iintro %w %hw Hr1
  icases Htf with ⟨%V0, Htf⟩
  iapply (load_slab c tM k fullShare V0)
  isplitl [Htf]; · iexact Htf
  iintro %u %hu Htf
  iapply (store_slab c (Memref.isWhole_whole cc0_scratch2) k (k0_pay5 v w))
  isplitl [Htf]; · iexists V0; iexact Htf
  rw [flat_add v w, hv, hw, ← T_eq m c k]
  iintro Htf
  ihave Hs2 := (halve c (chunk tM k) (T m c k)) $$ Htf
  icases Hs2 with ⟨Hl, Htf⟩
  iapply (send_chunk m K c (snd k c) n hn (Memref.isWhole_whole cc0_scratch2) (Memref.isWhole_whole cc0_scratch4) rfl 4 5 k (T m c k)
    (credit_r2 k) rfl (BIBase.Entails.refl) (by unfold copyPay snd; rw [peer_peer]) D)
  isplitr; · iexact Hrec
  isplitl [Hl]; · iexact Hl
  isplitl [Hr]; · iexact Hr
  isplitl [HO]; · iexact HO
  isplitl [Ht]; · iexact Ht
  isplitl [Ht']; · iexact Ht'
  iintro ⟨Hcs, HO⟩
  iapply Hk
  isplitr [HO]
  · unfold addPost
    isplitl [Hat]; · iexact Hat
    isplitl [Hr1]; · iexact Hr1
    isplitl [Hs]; · iexact Hs
    isplitl [Htf]; · iexact Htf
    iexact Hcs
  iexact HO

/-! ## The second sum and the copy out -/

/-- What the second sum of chunk `k` needs, -/
def drainPre (c : Dev nD) (k : Fin 4) : sProp 𝕄 :=
  iprop(credit c 5 k ∗ before c 5 k ∗ holds c (chunk tM k) fullShare.right (T m c k) ∗ free c (chunk oM k) ∗ free c (outC k) ∗ turn c 1 k)
/-- and what it leaves. -/
def drainPost (c : Dev nD) (k : Fin 4) : sProp 𝕄 :=
  iprop(after c 5 k ∗ holds c (chunk r2M k) fullShare (T m (snd k c) k) ∗ holds c (chunk tM k) fullShare.right (T m c k) ∗ credit c 1 k)

/-- The second neighbour's sum arrives, is added to the own one, and the result starts into its band. -/
theorem drain_step (c : Dev nD) (k : Fin 4) (Q : PUnit → sProp 𝕄) :
    iprop(records m K ∗ drainPre m c k ∗ debt c 0 ∗ ((drainPost m c k ∗ debt c 0) -∗ Q ⟨⟩))
      ⊢ runs c (drainP k) Q := by
  unfold drainP runs drainPre
  simp only [wp_bind]
  iintro ⟨#Hrec, ⟨Hc, Hat, Htf, Hof, Hout, Ht⟩, HO, Hk⟩
  iapply (wait_dma m K c 5 k (chunk tM k) (chunk r2M k) (exact_chunk (Memref.isWhole_whole cc0_scratch2) k) (exact_chunk (Memref.isWhole_whole cc0_scratch4) k) (credit_r2 k) (le_of_eq (rank_cell 5 k)) (above_zero 3))
  isplitr; · iexact Hrec
  isplitl [Hc]; · iexact Hc
  isplitl [HO]; · iexact HO
  isplitl [Hat]; · iexact Hat
  iintro ⟨HO, Hat, Hr2⟩
  unfold copyPay
  iapply (load_slab c tM k fullShare.right (T m c k))
  isplitl [Htf]; · iexact Htf
  iintro %v %hv Htf
  iapply (load_slab c r2M k fullShare (T m (snd k c) k))
  isplitl [Hr2]; · iexact Hr2
  iintro %w %hw Hr2
  icases Hof with ⟨%V0, Hof⟩
  iapply (load_slab c oM k fullShare V0)
  isplitl [Hof]; · iexact Hof
  iintro %u %hu Hof
  iapply (store_slab c (Memref.isWhole_whole cc0_scratch5) k (k0_pay9 v w))
  isplitl [Hof]; · iexists V0; iexact Hof
  rw [flat_out v w, hv, hw, ← O_eq m c k]
  iintro Hof
  iapply (copy_here m K c 1 k (O m c k) ((credit_out k).trans amt1.symm) (BIBase.Entails.refl))
  isplitr; · iexact Hrec
  isplitl [Hof]; · iexact Hof
  isplitl [Hout]; · iexact Hout
  isplitl [Ht]; · iexact Ht
  iintro Hco
  iapply Hk
  isplitr [HO]
  · unfold drainPost
    isplitl [Hat]; · iexact Hat
    isplitl [Hr2]; · iexact Hr2
    isplitl [Htf]; · iexact Htf
    iexact Hco
  iexact HO

/-! ## The last waits -/

/-- A copy out is done: its band of the result is written. -/
theorem outDone_step (c : Dev nD) (k : Fin 4) (Q : PUnit → sProp 𝕄) :
    iprop(records m K ∗ credit c 1 k ∗ debt c 0 ∗ before c 1 k ∗ ((debt c 0 ∗ after c 1 k ∗ copyPay m c k 1) -∗ Q ⟨⟩))
      ⊢ runs c (outDoneP k) Q :=
  wait_dma m K c 1 k (chunk oM k) (outC k) (exact_chunk (Memref.isWhole_whole cc0_scratch5) k) (exact_out k) (credit_out k) (le_of_eq (rank_cell 1 k)) (above_zero 0) Q
/-- A first-round copy is read out: the borrowed half of the chunk is back. -/
theorem sent1_step (c : Dev nD) (k : Fin 4) (Q : PUnit → sProp 𝕄) :
    iprop(records m K ∗ credit c 2 k ∗ debt c 0 ∗ before c 2 k ∗ ((debt c 0 ∗ after c 2 k ∗ copyPay m c k 2) -∗ Q ⟨⟩))
      ⊢ runs c (sent1P k) Q :=
  wait_dma m K c 2 k (chunk r1M k) (chunk sM k) (exact_chunk (Memref.isWhole_whole cc0_scratch3) k) (exact_chunk (Memref.isWhole_whole cc0_scratch1) k) (credit_s k) (le_of_eq (rank_cell 2 k)) (above_zero 0) Q
/-- A second-round copy is read out. -/
theorem sent2_step (c : Dev nD) (k : Fin 4) (Q : PUnit → sProp 𝕄) :
    iprop(records m K ∗ credit c 4 k ∗ debt c 0 ∗ before c 4 k ∗ ((debt c 0 ∗ after c 4 k ∗ copyPay m c k 4) -∗ Q ⟨⟩))
      ⊢ runs c (sent2P k) Q :=
  wait_dma m K c 4 k (chunk r2M k) (chunk tM k) (exact_chunk (Memref.isWhole_whole cc0_scratch4) k) (exact_chunk (Memref.isWhole_whole cc0_scratch2) k) (credit_t k) (le_of_eq (rank_cell 4 k)) (above_zero 0) Q

/-! ## The barrier -/

/-- Signals to either side: a unit owed to that neighbour's barrier, handed with it the landing chunks that neighbour writes. -/
theorem signal_step (c n : Dev nD) (b : Bool) (hn : n = peer b c) (D : CellTallies nD τ sig Unit) (Q : PUnit → sProp 𝕄) :
    iprop(records m K ∗ debt c (D + tallyAt (bar (peer b c)) () 1) ∗ dutyTok ER (bar (peer b c)) 0 b ∗ barPay (peer b c) b
        ∗ (debt c D -∗ Q ⟨⟩))
      ⊢ runs c (signalP n) Q := by
  subst hn
  unfold signalP
  simp only [semSignalWord]
  iintro ⟨#Hrec, ⟨%W, HO⟩, Ht, Hp, Hk⟩
  ihave #HI := (records_inv m K (peer b c, none)) $$ Hrec
  ihave #HR := (records_reached m K (peer b c, none)) $$ Hrec
  iapply (Rounds.wp_signal 𝒱₀ ER (plan m) (c : Thread nD τ) none (dst := (peer b c : Thread nD τ)) (κ := K (peer b c, none))
      (d := b) (by rw [duties_bar]; exact Finset.mem_univ _) ((amount_bar m (peer b c) b).trans (by decide)) () D rfl)
    $$ [HO Ht Hp]
  · isplitr; · iexact HI
    isplitl [HO]; · iexact HO
    isplitl [Ht]; · iexact Ht
    isplitl [Hp]; · rw [payload_bar]; iexact Hp
    iexact HR
  iintro HO
  rw [wp_ret]; imodintro
  iapply Hk
  iexists W; iexact HO

/-- The wait for both neighbours brings, for each chunk, where its two copies land. -/
theorem barrier_step (c : Dev nD) (D : CellTallies nD τ sig Unit) (hD : Above 1 D) (Q : PUnit → sProp 𝕄) :
    iprop(records m K ∗ cred (tallyAt (bar c) () 2) ∗ debt c D ∗ atPos ER (bar c) 0 ∅ 0
        ∗ ((debt c D ∗ atPos ER (bar c) 1 ∅ 0
            ∗ bigSep Finset.univ fun k : Fin 4 => iprop(free (F := F) (fst k c) (chunk r1M k) ∗ free (F := F) (snd k c) (chunk r2M k))) -∗ Q ⟨⟩))
      ⊢ runs c barrierP Q := by
  unfold barrierP
  simp only [semWaitWord]
  iintro ⟨#Hrec, Hc, ⟨%W, HO⟩, Hat, Hk⟩
  ihave #HI := (records_inv m K (c, none)) $$ Hrec
  iapply (Rounds.wp_wait_rest_token 𝒱₀ ER (plan m) (c : Thread nD τ) none (κ := K (c, none))
      (wpE_semWait_eq 𝒱₀ (c : Thread nD τ) none Set.univ) (Set.mem_univ _) () (O := D) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr
    · iapply (mayWait c (.reg barS) (n := 1) (le_of_eq rfl) hD); iapply (records_lev m K); iexact Hrec
    iexact Hat
  iintro ⟨HO, Hat, -, Hpay⟩
  ihave Hp := (Entails.of_eq (rest_bar m c)) $$ Hpay
  rw [wp_ret]; imodintro
  iapply Hk
  isplitl [HO]; · iexists _; iexact HO
  isplitl [Hat]; · iexact Hat
  iapply (landing_take c); iexact Hp

end Cert.Exchange

end
-- ==== Proof.Body.lean ====
/-
# The body

The stages in program order. A round runs one stage for all four chunks; between rounds every chunk's holdings are only
regrouped. At the end every semaphore is closed at zero.
-/
module

public import proofs.«01_k».proof.Proof.Steps

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Slot → ℕ)

/-! ## A round -/

/-- On device `c` the stage `p` turns `A` into `B` while its debt goes from `D` to `D'`. -/
def Stage (c : Dev nD) (p : Run F) (A B : sProp 𝕄) (D D' : CellTallies nD τ sig Unit) : Prop :=
  ∀ Q : PUnit → sProp 𝕄, iprop(records m K ∗ A ∗ debt c D ∗ ((B ∗ debt c D') -∗ Q ⟨⟩)) ⊢ runs c p Q

/-- A stage leaves alone what it does not need. -/
theorem Stage.frame {c : Dev nD} {p : Run F} {A B : sProp 𝕄} {D D' : CellTallies nD τ sig Unit} (h : Stage m K c p A B D D')
    {A' B' : sProp 𝕄} (R : sProp 𝕄) (hA : A' ⊢ iprop(A ∗ R)) (hB : iprop(B ∗ R) ⊢ B') : Stage m K c p A' B' D D' := by
  intro Q
  iintro ⟨#Hrec, HA, HO, Hk⟩
  ihave HA2 := hA $$ HA
  icases HA2 with ⟨HA, HR⟩
  iapply (h Q)
  isplitr; · iexact Hrec
  isplitl [HA]; · iexact HA
  isplitl [HO]; · iexact HO
  iintro ⟨HB, HO⟩
  iapply Hk
  isplitr [HO]
  · iapply hB
    isplitl [HB] <;> iassumption
  iexact HO

/-- All four chunks are the four chunks in any order. -/
theorem sep_four (k₀ k₁ k₂ k₃ : Fin 4) (hu : Finset.univ = [k₀, k₁, k₂, k₃].toFinset) (hn : [k₀, k₁, k₂, k₃].Nodup) (A : Fin 4 → sProp 𝕄) :
    bigSep Finset.univ A = iprop(A k₀ ∗ A k₁ ∗ A k₂ ∗ A k₃) := by
  rw [bigSep_univ_eq_bigSepL _ hu hn]; rfl

/-- Four stages, one for each chunk, in any order. -/
theorem round (c : Dev nD) (A B : Fin 4 → sProp 𝕄) (k₀ k₁ k₂ k₃ : Fin 4)
    (hu : Finset.univ = [k₀, k₁, k₂, k₃].toFinset) (hn : [k₀, k₁, k₂, k₃].Nodup) {D₀ D₁ D₂ D₃ D₄ : CellTallies nD τ sig Unit}
    {p₀ p₁ p₂ p₃ : Run F}
    (h₀ : Stage m K c p₀ (A k₀) (B k₀) D₀ D₁) (h₁ : Stage m K c p₁ (A k₁) (B k₁) D₁ D₂)
    (h₂ : Stage m K c p₂ (A k₂) (B k₂) D₂ D₃) (h₃ : Stage m K c p₃ (A k₃) (B k₃) D₃ D₄) (R : sProp 𝕄) :
    iprop(records m K ∗ bigSep Finset.univ A ∗ debt c D₀ ∗ ((bigSep Finset.univ B ∗ debt c D₄) -∗ R))
      ⊢ runs c p₀ fun _ => runs c p₁ fun _ => runs c p₂ fun _ => runs c p₃ fun _ => R := by
  rw [sep_four k₀ k₁ k₂ k₃ hu hn A, sep_four k₀ k₁ k₂ k₃ hu hn B]
  iintro ⟨#Hrec, ⟨H0, H1, H2, H3⟩, HO, Hk⟩
  iapply (h₀ _)
  isplitr; · iexact Hrec
  isplitl [H0]; · iexact H0
  isplitl [HO]; · iexact HO
  iintro ⟨H0, HO⟩
  iapply (h₁ _)
  isplitr; · iexact Hrec
  isplitl [H1]; · iexact H1
  isplitl [HO]; · iexact HO
  iintro ⟨H1, HO⟩
  iapply (h₂ _)
  isplitr; · iexact Hrec
  isplitl [H2]; · iexact H2
  isplitl [HO]; · iexact HO
  iintro ⟨H2, HO⟩
  iapply (h₃ _)
  isplitr; · iexact Hrec
  isplitl [H3]; · iexact H3
  isplitl [HO]; · iexact HO
  iintro ⟨H3, HO⟩
  iapply Hk
  isplitr [HO]
  · isplitl [H0]; · iexact H0
    isplitl [H1]; · iexact H1
    isplitl [H2]; · iexact H2
    iexact H3
  iexact HO

/-! ## What a device holds of chunk `k` between the rounds -/

/-- Kept for rounding, -/
def keepCast (c : Dev nD) (k : Fin 4) : sProp 𝕄 :=
  iprop(before c 0 k ∗ free (F := F) c (chunk sM k) ∗ turn c 2 k ∗ turn (fst k c) 3 k)
/-- for the first sum, -/
def keepAdd (c : Dev nD) (k : Fin 4) : sProp 𝕄 :=
  iprop(credit c 3 k ∗ before c 3 k ∗ free (F := F) c (chunk tM k) ∗ turn c 4 k ∗ turn (snd k c) 5 k)
/-- for the second sum, -/
def keepDrain (c : Dev nD) (k : Fin 4) : sProp 𝕄 :=
  iprop(credit c 5 k ∗ before c 5 k ∗ free (F := F) c (chunk oM k) ∗ free (F := F) c (outC k) ∗ turn c 1 k)
/-- and for the last waits. -/
def keepWaits (c : Dev nD) (k : Fin 4) : sProp 𝕄 := iprop(before (F := F) c 1 k ∗ before (F := F) c 2 k ∗ before (F := F) c 4 k)

/-- Before the fill; -/
def st0 (c : Dev nD) (k : Fin 4) : sProp 𝕄 :=
  iprop((holds c (xC k) fullShare (X m c k) ∗ free (F := F) c (chunk xvM k) ∗ turn c 0 k)
    ∗ keepCast c k ∗ keepAdd c k ∗ keepDrain c k ∗ keepWaits c k)
/-- after it; -/
def st1 (c : Dev nD) (k : Fin 4) : sProp 𝕄 :=
  iprop(credit c 0 k ∗ keepCast (F := F) c k ∗ keepAdd (F := F) c k ∗ keepDrain (F := F) c k ∗ keepWaits (F := F) c k)
/-- after the barrier; -/
def st2 (c : Dev nD) (k : Fin 4) : sProp 𝕄 :=
  iprop(castPre c k ∗ free (F := F) (snd k c) (chunk r2M k) ∗ keepAdd (F := F) c k ∗ keepDrain (F := F) c k ∗ keepWaits (F := F) c k)
/-- after rounding: what only the end needs, -/
def done3 (c : Dev nD) (k : Fin 4) : sProp 𝕄 :=
  iprop(after c 0 k ∗ holds c (chunk xvM k) fullShare (X m c k) ∗ holds c (xC k) fullShare (X m c k) ∗ credit c 2 k)
/-- and all; -/
def st3 (c : Dev nD) (k : Fin 4) : sProp 𝕄 :=
  iprop(addPre m c k ∗ done3 m c k ∗ keepDrain (F := F) c k ∗ keepWaits (F := F) c k)
/-- after the first sum: what only the end needs, -/
def done4 (c : Dev nD) (k : Fin 4) : sProp 𝕄 :=
  iprop(after c 3 k ∗ holds c (chunk r1M k) fullShare (S m (fst k c) k) ∗ holds c (chunk sM k) fullShare.right (S m c k) ∗ credit c 4 k)
/-- and all; -/
def st4 (c : Dev nD) (k : Fin 4) : sProp 𝕄 :=
  iprop(drainPre m c k ∗ done4 m c k ∗ done3 m c k ∗ keepWaits (F := F) c k)
/-- after the second sum; -/
def st5 (c : Dev nD) (k : Fin 4) : sProp 𝕄 :=
  iprop(drainPost m c k ∗ done4 m c k ∗ done3 m c k ∗ keepWaits (F := F) c k)
/-- after the waits for the copies out; -/
def st6 (c : Dev nD) (k : Fin 4) : sProp 𝕄 :=
  iprop((credit c 2 k ∗ before c 2 k)
    ∗ (after c 0 k ∗ after c 3 k ∗ after c 5 k ∗ after c 1 k)
    ∗ holds c (xC k) fullShare (X m c k) ∗ holds c (outC k) fullShare (O m c k) ∗ holds c (chunk xvM k) fullShare (X m c k)
    ∗ holds c (chunk oM k) fullShare (O m c k)
    ∗ holds c (chunk r1M k) fullShare (S m (fst k c) k) ∗ holds c (chunk r2M k) fullShare (T m (snd k c) k)
    ∗ holds c (chunk sM k) fullShare.right (S m c k) ∗ holds c (chunk tM k) fullShare.right (T m c k)
    ∗ credit c 4 k ∗ before c 4 k)
/-- after the waits for the first round's copies; -/
def st7 (c : Dev nD) (k : Fin 4) : sProp 𝕄 :=
  iprop((credit c 4 k ∗ before c 4 k)
    ∗ (after c 0 k ∗ after c 3 k ∗ after c 5 k ∗ after c 1 k ∗ after c 2 k)
    ∗ holds c (xC k) fullShare (X m c k) ∗ holds c (outC k) fullShare (O m c k) ∗ holds c (chunk xvM k) fullShare (X m c k)
    ∗ holds c (chunk oM k) fullShare (O m c k)
    ∗ holds c (chunk r1M k) fullShare (S m (fst k c) k) ∗ holds c (chunk r2M k) fullShare (T m (snd k c) k)
    ∗ holds c (chunk sM k) fullShare (S m c k) ∗ holds c (chunk tM k) fullShare.right (T m c k))
/-- after all waits. -/
def st8 (c : Dev nD) (k : Fin 4) : sProp 𝕄 :=
  iprop((after c 0 k ∗ after c 3 k ∗ after c 5 k ∗ after c 1 k ∗ after c 2 k ∗ after c 4 k)
    ∗ holds c (xC k) fullShare (X m c k) ∗ holds c (outC k) fullShare (O m c k) ∗ free (F := F) c (chunk xvM k)
    ∗ free (F := F) c (chunk sM k) ∗ free (F := F) c (chunk tM k)
    ∗ free (F := F) c (chunk r1M k) ∗ free (F := F) c (chunk r2M k) ∗ free (F := F) c (chunk oM k))

/-! ## The stages from one to the next -/

theorem free_of (c : Dev nD) {sp : Space} {s : Shape} {e : EltTy} (M : Memref sig .tc sp s e) (V : s.Idx → Elt F e) :
    holds c M fullShare V ⊢ free (F := F) c M := by
  iintro H; iexists V; iexact H

theorem stage_fill (c : Dev nD) (k : Fin 4) (D : CellTallies nD τ sig Unit) : Stage m K c (fillP k) (st0 m c k) (st1 c k) D D := by
  intro Q
  unfold st0 st1
  iintro ⟨#Hrec, ⟨⟨Hx, Hxv, Ht⟩, HR⟩, HO, Hk⟩
  iapply (fill_step m K c k Q)
  isplitr; · iexact Hrec
  isplitl [Hx]; · iexact Hx
  isplitl [Hxv]; · iexact Hxv
  isplitl [Ht]; · iexact Ht
  iintro Hc
  iapply Hk
  isplitr [HO]
  · isplitl [Hc]; · iexact Hc
    iexact HR
  iexact HO

/-- The barrier hands over where the two copies of chunk `k` land. -/
theorem st_landing (c : Dev nD) (k : Fin 4) :
    iprop(st1 (F := F) c k ∗ (free (F := F) (fst k c) (chunk r1M k) ∗ free (F := F) (snd k c) (chunk r2M k))) ⊢ st2 (F := F) c k := by
  unfold st1 st2 keepCast castPre
  iintro ⟨⟨Hc, ⟨Ha, Hs, Ht, Ht'⟩, HR⟩, H1, H2⟩
  isplitr [H2 HR]
  · isplitl [Hc]; · iexact Hc
    isplitl [Ha]; · iexact Ha
    isplitl [Hs]; · iexact Hs
    isplitl [H1]; · iexact H1
    isplitl [Ht]; · iexact Ht
    iexact Ht'
  isplitl [H2]; · iexact H2
  iexact HR

theorem stage_cast (c n : Dev nD) (k : Fin 4) (hn : n = fst k c) (D : CellTallies nD τ sig Unit) (hD : Above 0 (D + due1 c k)) :
    Stage m K c (castP n k) (st2 c k) (st3 m c k) (D + due1 c k) D :=
  Stage.frame m K (cast_step m K c n k hn D hD)
    iprop(free (F := F) (snd k c) (chunk r2M k) ∗ keepAdd (F := F) c k ∗ keepDrain (F := F) c k ∗ keepWaits (F := F) c k)
    (by unfold st2; exact BIBase.Entails.refl)
    (by
      unfold castPost st3 addPre done3 keepAdd
      iintro ⟨⟨Ha, Hxv, Hx, Hs, Hc⟩, Hr2, ⟨Hc3, Hb3, Htf, Ht, Ht'⟩, HD, HW⟩
      isplitl [Hc3 Hb3 Hs Htf Hr2 Ht Ht']
      · isplitl [Hc3]; · iexact Hc3
        isplitl [Hb3]; · iexact Hb3
        isplitl [Hs]; · iexact Hs
        isplitl [Htf]; · iexact Htf
        isplitl [Hr2]; · iexact Hr2
        isplitl [Ht]; · iexact Ht
        iexact Ht'
      isplitl [Ha Hxv Hx Hc]
      · isplitl [Ha]; · iexact Ha
        isplitl [Hxv]; · iexact Hxv
        isplitl [Hx]; · iexact Hx
        iexact Hc
      isplitl [HD]; · iexact HD
      iexact HW)

theorem stage_add (c n : Dev nD) (k : Fin 4) (hn : n = snd k c) (D : CellTallies nD τ sig Unit) (hD : Above 2 (D + due2 c k)) :
    Stage m K c (addP n k) (st3 m c k) (st4 m c k) (D + due2 c k) D :=
  Stage.frame m K (add_step m K c n k hn D hD)
    iprop(done3 m c k ∗ keepDrain (F := F) c k ∗ keepWaits (F := F) c k)
    (by unfold st3; exact BIBase.Entails.refl)
    (by
      unfold addPost st4 drainPre done4 keepDrain
      iintro ⟨⟨Ha, Hr1, Hs, Htf, Hc⟩, H3, ⟨Hc5, Hb5, Hof, Hout, Ht⟩, HW⟩
      isplitl [Hc5 Hb5 Htf Hof Hout Ht]
      · isplitl [Hc5]; · iexact Hc5
        isplitl [Hb5]; · iexact Hb5
        isplitl [Htf]; · iexact Htf
        isplitl [Hof]; · iexact Hof
        isplitl [Hout]; · iexact Hout
        iexact Ht
      isplitl [Ha Hr1 Hs Hc]
      · isplitl [Ha]; · iexact Ha
        isplitl [Hr1]; · iexact Hr1
        isplitl [Hs]; · iexact Hs
        iexact Hc
      isplitl [H3]; · iexact H3
      iexact HW)

theorem stage_drain (c : Dev nD) (k : Fin 4) : Stage m K c (drainP k) (st4 m c k) (st5 m c k) 0 0 :=
  Stage.frame m K (drain_step m K c k) iprop(done4 m c k ∗ done3 m c k ∗ keepWaits (F := F) c k)
    (by unfold st4; exact BIBase.Entails.refl) (by unfold st5; exact BIBase.Entails.refl)

/-- A last wait as a stage. -/
theorem stage_wait (c : Dev nD) (j : Fin 6) (k : Fin 4) (p : Run F)
    (h : ∀ Q : PUnit → sProp 𝕄, iprop(records m K ∗ credit c j k ∗ debt c 0 ∗ before c j k ∗ ((debt c 0 ∗ after c j k ∗ copyPay m c k j) -∗ Q ⟨⟩)) ⊢ runs c p Q) :
    Stage m K c p iprop(credit c j k ∗ before c j k) iprop(after c j k ∗ copyPay m c k j) 0 0 := by
  intro Q
  iintro ⟨#Hrec, ⟨Hc, Hb⟩, HO, Hk⟩
  iapply (h Q)
  isplitr; · iexact Hrec
  isplitl [Hc]; · iexact Hc
  isplitl [HO]; · iexact HO
  isplitl [Hb]; · iexact Hb
  iintro ⟨HO, HB⟩
  iapply Hk
  isplitr [HO]; · iexact HB
  iexact HO

theorem stage_outDone (c : Dev nD) (k : Fin 4) : Stage m K c (outDoneP k) (st5 m c k) (st6 m c k) 0 0 :=
  Stage.frame m K (stage_wait m K c 1 k _ (outDone_step m K c k))
    iprop((after c 0 k ∗ after c 3 k ∗ after c 5 k)
      ∗ (holds c (xC k) fullShare (X m c k) ∗ holds c (chunk xvM k) fullShare (X m c k)
        ∗ holds c (chunk r1M k) fullShare (S m (fst k c) k) ∗ holds c (chunk r2M k) fullShare (T m (snd k c) k)
        ∗ holds c (chunk sM k) fullShare.right (S m c k) ∗ holds c (chunk tM k) fullShare.right (T m c k))
      ∗ credit c 2 k ∗ before c 2 k ∗ credit c 4 k ∗ before c 4 k)
    (by
      unfold st5 drainPost done4 done3 keepWaits
      iintro ⟨⟨Ha5, Hr2, Ht, Hc1⟩, ⟨Ha3, Hr1, Hs, Hc4⟩, ⟨Ha0, Hxv, Hx, Hc2⟩, Hb1, Hb2, Hb4⟩
      iframe)
    (by
      unfold st6 copyPay
      iintro ⟨⟨Ha1, Hout, Ho⟩, ⟨Ha0, Ha3, Ha5⟩, ⟨Hx, Hxv, Hr1, Hr2, Hs, Ht⟩, Hc2, Hb2, Hc4, Hb4⟩
      iframe)

theorem stage_sent1 (c : Dev nD) (k : Fin 4) : Stage m K c (sent1P k) (st6 m c k) (st7 m c k) 0 0 :=
  Stage.frame m K (stage_wait m K c 2 k _ (sent1_step m K c k)) _
    (by unfold st6; exact BIBase.Entails.refl)
    (by
      unfold st7 copyPay
      iintro ⟨⟨Ha2, Hl⟩, ⟨Ha0, Ha3, Ha5, Ha1⟩, Hx, Hout, Hxv, Ho, Hr1, Hr2, Hs, Ht, Hc4, Hb4⟩
      ihave Hs2 := (unhalve c (chunk sM k) (S m c k)) $$ [Hl Hs]
      · isplitl [Hl] <;> iassumption
      iframe)

theorem stage_sent2 (c : Dev nD) (k : Fin 4) : Stage m K c (sent2P k) (st7 m c k) (st8 m c k) 0 0 :=
  Stage.frame m K (stage_wait m K c 4 k _ (sent2_step m K c k)) _
    (by unfold st7; exact BIBase.Entails.refl)
    (by
      unfold st8 copyPay
      iintro ⟨⟨Ha4, Hl⟩, ⟨Ha0, Ha3, Ha5, Ha1, Ha2⟩, Hx, Hout, Hxv, Ho, Hr1, Hr2, Hs, Ht⟩
      ihave Ht2 := (unhalve c (chunk tM k) (T m c k)) $$ [Hl Ht]
      · isplitl [Hl] <;> iassumption
      ihave Hxv := (free_of c (chunk xvM k) _) $$ Hxv
      ihave Hs := (free_of c (chunk sM k) _) $$ Hs
      ihave Ht2 := (free_of c (chunk tM k) _) $$ Ht2
      ihave Hr1 := (free_of c (chunk r1M k) _) $$ Hr1
      ihave Hr2 := (free_of c (chunk r2M k) _) $$ Hr2
      ihave Ho := (free_of c (chunk oM k) _) $$ Ho
      iframe)

/-! ## Closing -/

/-- At the end: chunk `k`'s six semaphores at zero, the input band as it was, the result band written, every other chunk. -/
def fin (c : Dev nD) (k : Fin 4) : sProp 𝕄 :=
  iprop((bigSep Finset.univ fun j : Fin 6 => semVal (cell c j k) 0)
    ∗ holds c (xC k) fullShare (X m c k) ∗ holds c (outC k) fullShare (O m c k) ∗ free (F := F) c (chunk xvM k)
    ∗ free (F := F) c (chunk sM k) ∗ free (F := F) c (chunk tM k)
    ∗ free (F := F) c (chunk r1M k) ∗ free (F := F) c (chunk r2M k) ∗ free (F := F) c (chunk oM k))

/-- A semaphore whose round is over is back at zero. -/
theorem close_slot (p : Dev nD × Slot) : iprop(records m K ∗ atPos ER (at_ p) 1 ∅ 0) ⊢ iprop(|={Set.univ}=> semVal (at_ p) 0) := by
  iintro ⟨#Hrec, Hat⟩
  ihave #HI := (records_inv m K p) $$ Hrec
  iapply (Rounds.cell_close ER (plan m) (Set.mem_univ (K p)) (fun h => h) (R := 1) (duties_later m (at_ p)))
  isplitr; · iexact HI
  iexact Hat

theorem close_cell (c : Dev nD) (j : Fin 6) (k : Fin 4) :
    iprop(records m K ∗ after c j k) ⊢ iprop(|={Set.univ}=> semVal (cell c j k) 0) := close_slot m K (c, some (j, k))

/-- The six places in the order the waits end. -/
theorem sep_six (Φ : Fin 6 → sProp 𝕄) :
    bigSep Finset.univ Φ = iprop(Φ 0 ∗ Φ 3 ∗ Φ 5 ∗ Φ 1 ∗ Φ 2 ∗ Φ 4) := by
  rw [bigSep_univ_eq_bigSepL [0, 3, 5, 1, 2, 4] (by decide) (by decide)]; rfl

theorem st_close (c : Dev nD) (k : Fin 4) : iprop(records m K ∗ st8 m c k) ⊢ iprop(|={Set.univ}=> fin m c k) := by
  unfold st8 fin
  rw [sep_six]
  iintro ⟨#Hrec, ⟨Ha0, Ha3, Ha5, Ha1, Ha2, Ha4⟩, HR⟩
  imod (close_cell m K c 0 k) $$ [Ha0] with Ha0
  · isplitr; · iexact Hrec
    iexact Ha0
  imod (close_cell m K c 3 k) $$ [Ha3] with Ha3
  · isplitr; · iexact Hrec
    iexact Ha3
  imod (close_cell m K c 5 k) $$ [Ha5] with Ha5
  · isplitr; · iexact Hrec
    iexact Ha5
  imod (close_cell m K c 1 k) $$ [Ha1] with Ha1
  · isplitr; · iexact Hrec
    iexact Ha1
  imod (close_cell m K c 2 k) $$ [Ha2] with Ha2
  · isplitr; · iexact Hrec
    iexact Ha2
  imod (close_cell m K c 4 k) $$ [Ha4] with Ha4
  · isplitr; · iexact Hrec
    iexact Ha4
  imodintro
  isplitr [HR]
  · isplitl [Ha0]; · iexact Ha0
    isplitl [Ha3]; · iexact Ha3
    isplitl [Ha5]; · iexact Ha5
    isplitl [Ha1]; · iexact Ha1
    isplitl [Ha2]; · iexact Ha2
    iexact Ha4
  iexact HR

/-- All four chunks at once. -/
theorem close_all (c : Dev nD) : iprop(records m K ∗ bigSep Finset.univ (st8 m c)) ⊢ iprop(|={Set.univ}=> bigSep Finset.univ (fin m c)) := by
  rw [sep_four 0 1 2 3 (by decide) (by decide) (st8 m c), sep_four 0 1 2 3 (by decide) (by decide) (fin m c)]
  iintro ⟨#Hrec, H0, H1, H2, H3⟩
  imod (st_close m K c 0) $$ [H0] with H0
  · isplitr; · iexact Hrec
    iexact H0
  imod (st_close m K c 1) $$ [H1] with H1
  · isplitr; · iexact Hrec
    iexact H1
  imod (st_close m K c 2) $$ [H2] with H2
  · isplitr; · iexact Hrec
    iexact H2
  imod (st_close m K c 3) $$ [H3] with H3
  · isplitr; · iexact Hrec
    iexact H3
  imodintro
  isplitl [H0]; · iexact H0
  isplitl [H1]; · iexact H1
  isplitl [H2]; · iexact H2
  iexact H3

/-! ## The whole body -/

/-- What device `c` starts from: its barrier's two units and place, the right to signal either side, its landing chunks, and
    its four chunks before the fill. -/
def bodyPre (c : Dev nD) : sProp 𝕄 :=
  iprop(cred (tallyAt (bar c) () 2) ∗ atPos ER (bar c) 0 ∅ 0
    ∗ dutyTok ER (bar (peer false c)) 0 false ∗ dutyTok ER (bar (peer true c)) 0 true
    ∗ (bigSep Finset.univ fun k : Fin 4 => iprop(free (F := F) c (chunk r1M k) ∗ free (F := F) c (chunk r2M k)))
    ∗ bigSep Finset.univ (st0 m c))

/-- The whole body, from there to every semaphore closed and the result written. -/
theorem run_body (c : Dev nD) (Q : PUnit → sProp 𝕄) :
    iprop(records m K ∗ bodyPre m c ∗ debt c (owed0 c)
        ∗ ((debt c 0 ∗ semVal (bar c) 0 ∗ bigSep Finset.univ (fin m c)) -∗ Q ⟨⟩))
      ⊢ runs c bodyP Q := by
  unfold bodyP runs
  simp only [wp_bind, Prog.lift]
  rw [wp_deviceId]
  unfold bodyPre
  iintro ⟨#Hrec, ⟨HcB, HatB, Ht1, Ht2, Hland, Hst⟩, HO, Hk⟩
  rw [wp_ret]; imodintro
  ihave Hg := (landing_give c) $$ Hland
  icases Hg with ⟨Hg1, Hg2⟩
  iapply (signal_step m K c _ false (dev1_eq c) (owed1 c + tallyAt (bar (peer true c)) () 1))
  isplitr; · iexact Hrec
  isplitl [HO]; · iexact HO
  isplitl [Ht1]; · iexact Ht1
  isplitl [Hg1]; · iexact Hg1
  iintro HO
  iapply (signal_step m K c _ true (dev2_eq c) (owed1 c))
  isplitr; · iexact Hrec
  isplitl [HO]; · iexact HO
  isplitl [Ht2]; · iexact Ht2
  isplitl [Hg2]; · iexact Hg2
  iintro HO
  iapply (round m K c (st0 m c) (st1 c) 0 2 1 3 (by decide) (by decide)
    (stage_fill m K c 0 (owed1 c)) (stage_fill m K c 2 (owed1 c)) (stage_fill m K c 1 (owed1 c)) (stage_fill m K c 3 (owed1 c)))
  isplitr; · iexact Hrec
  isplitl [Hst]; · iexact Hst
  isplitl [HO]; · iexact HO
  iintro ⟨Hst, HO⟩
  iapply (barrier_step m K c (owed1 c) (above_owed1 (by decide) c))
  isplitr; · iexact Hrec
  isplitl [HcB]; · iexact HcB
  isplitl [HO]; · iexact HO
  isplitl [HatB]; · iexact HatB
  iintro ⟨HO, HatB, Hl⟩
  ihave Hst := (show iprop(bigSep Finset.univ (st1 (F := F) c)
      ∗ bigSep Finset.univ fun k : Fin 4 => iprop(free (F := F) (fst k c) (chunk r1M k) ∗ free (F := F) (snd k c) (chunk r2M k)))
      ⊢ bigSep Finset.univ (st2 (F := F) c) by
    rw [← bigSep_sep']; exact bigSep_mono fun k _ => st_landing c k) $$ [Hst Hl]
  · isplitl [Hst] <;> iassumption
  iapply (round m K c (st2 c) (st3 m c) 0 2 1 3 (by decide) (by decide)
    (stage_cast m K c _ 0 (dev3_eq c) _ (above_owed1 (by decide) c))
    (stage_cast m K c _ 2 (dev4_eq c) _ (above_add (above_add (above_add (above_owed2 (by decide) c) (above_due1 (by decide) c 3)) (above_due1 (by decide) c 1)) (above_due1 (by decide) c 2)))
    (stage_cast m K c _ 1 (dev5_eq c) _ (above_add (above_add (above_owed2 (by decide) c) (above_due1 (by decide) c 3)) (above_due1 (by decide) c 1)))
    (stage_cast m K c _ 3 (dev6_eq c) (owed2 c) (above_add (above_owed2 (by decide) c) (above_due1 (by decide) c 3))))
  isplitr; · iexact Hrec
  isplitl [Hst]; · iexact Hst
  isplitl [HO]; · iexact HO
  iintro ⟨Hst, HO⟩
  iapply (round m K c (st3 m c) (st4 m c) 0 2 1 3 (by decide) (by decide)
    (stage_add m K c _ 0 (dev7_eq c) _ (above_owed2 (by decide) c))
    (stage_add m K c _ 2 (dev8_eq c) _ (above_add (above_add (above_add (above_zero 2) (above_due2 (by decide) c 3)) (above_due2 (by decide) c 1)) (above_due2 (by decide) c 2)))
    (stage_add m K c _ 1 (dev9_eq c) _ (above_add (above_add (above_zero 2) (above_due2 (by decide) c 3)) (above_due2 (by decide) c 1)))
    (stage_add m K c _ 3 (dev10_eq c) 0 (above_add (above_zero 2) (above_due2 (by decide) c 3))))
  isplitr; · iexact Hrec
  isplitl [Hst]; · iexact Hst
  isplitl [HO]; · iexact HO
  iintro ⟨Hst, HO⟩
  iapply (round m K c (st4 m c) (st5 m c) 0 2 1 3 (by decide) (by decide)
    (stage_drain m K c 0) (stage_drain m K c 2) (stage_drain m K c 1) (stage_drain m K c 3))
  isplitr; · iexact Hrec
  isplitl [Hst]; · iexact Hst
  isplitl [HO]; · iexact HO
  iintro ⟨Hst, HO⟩
  iapply (round m K c (st5 m c) (st6 m c) 0 1 2 3 (by decide) (by decide)
    (stage_outDone m K c 0) (stage_outDone m K c 1) (stage_outDone m K c 2) (stage_outDone m K c 3))
  isplitr; · iexact Hrec
  isplitl [Hst]; · iexact Hst
  isplitl [HO]; · iexact HO
  iintro ⟨Hst, HO⟩
  iapply (round m K c (st6 m c) (st7 m c) 0 1 2 3 (by decide) (by decide)
    (stage_sent1 m K c 0) (stage_sent1 m K c 1) (stage_sent1 m K c 2) (stage_sent1 m K c 3))
  isplitr; · iexact Hrec
  isplitl [Hst]; · iexact Hst
  isplitl [HO]; · iexact HO
  iintro ⟨Hst, HO⟩
  iapply (round m K c (st7 m c) (st8 m c) 0 1 2 3 (by decide) (by decide)
    (stage_sent2 m K c 0) (stage_sent2 m K c 1) (stage_sent2 m K c 2) (stage_sent2 m K c 3))
  isplitr; · iexact Hrec
  isplitl [Hst]; · iexact Hst
  isplitl [HO]; · iexact HO
  iintro ⟨Hst, HO⟩
  imod (close_all m K c) $$ [Hst] with Hst
  · isplitr; · iexact Hrec
    iexact Hst
  imod (close_slot m K (c, none)) $$ [HatB] with HzB
  · isplitr; · iexact Hrec
    iexact HatB
  simp only [Prog.pure_eq_ret]
  rw [wp_ret]; imodintro
  iapply Hk
  isplitl [HO]; · iexact HO
  isplitl [HzB]; · iexact HzB
  iexact Hst

end Cert.Exchange

end
-- ==== Proof.Cut.lean ====
/-
# Buffers cut into chunks

A scratch buffer is its four slabs, a block its four bands: held whole it is held in four parts, and back.
-/
module

public import proofs.«01_k».proof.Proof.Body

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The four parts cover and do not meet -/

theorem slab_disjoint (k k' : Fin 4) (h : k ≠ k') : Disjoint (slab k).set (slab k').set :=
  Rect.unit_disjoint (0 : Fin 3) (by
    have : k.val ≠ k'.val := fun e => h (Fin.ext e)
    show k.val + 1 ≤ k'.val ∨ k'.val + 1 ≤ k.val
    omega)
theorem band_disjoint (k k' : Fin 4) (h : k ≠ k') : Disjoint (band k).set (band k').set :=
  Rect.unit_disjoint (0 : Fin 2) (by
    have : k.val ≠ k'.val := fun e => h (Fin.ext e)
    show 128 * k.val + 128 ≤ 128 * k'.val ∨ 128 * k'.val + 128 ≤ 128 * k.val
    omega)

theorem slab_cover : (Finset.univ : Finset (Fin 4)).biUnion (fun k => (slab k).set) = Finset.univ := by
  refine Finset.eq_univ_iff_forall.mpr fun i => Finset.mem_biUnion.mpr ⟨⟨(i 0).val, (i 0).isLt⟩, Finset.mem_univ _, ?_⟩
  refine Rect.mem_set_unit.mpr fun a => ?_
  have h1 : (i 1).val < 128 := (i 1).isLt
  have h2 : (i 2).val < 512 := (i 2).isLt
  fin_cases a
  · exact ⟨Nat.le_refl _, Nat.lt_succ_self _⟩
  · exact ⟨Nat.zero_le _, by show (i 1).val < 0 + 128; omega⟩
  · exact ⟨Nat.zero_le _, by show (i 2).val < 0 + 512; omega⟩
theorem band_cover : (Finset.univ : Finset (Fin 4)).biUnion (fun k => (band k).set) = Finset.univ := by
  refine Finset.eq_univ_iff_forall.mpr fun i => Finset.mem_biUnion.mpr ?_
  have h0 : (i 0).val < 512 := (i 0).isLt
  have h1 : (i 1).val < 512 := (i 1).isLt
  refine ⟨⟨(i 0).val / 128, by omega⟩, Finset.mem_univ _, ?_⟩
  refine Rect.mem_set_unit.mpr fun a => ?_
  fin_cases a
  · exact ⟨by show 128 * ((i 0).val / 128) ≤ (i 0).val; omega, by show (i 0).val < 128 * ((i 0).val / 128) + 128; omega⟩
  · exact ⟨Nat.zero_le _, by show (i 1).val < 0 + 512; omega⟩

/-! ## Scratch buffers -/

/-- A slab held is its chunk held, -/
theorem chunk_of_slab (c : Dev nD) {e : EltTy} (M : Memref sig .tc .vmem S4x128x512 e) (k : Fin 4) (V : (slab k).shape.Idx → Elt F e) :
    holds c (M.slice (slab k) (fun _ => rfl)) fullShare V ⊢ free (F := F) c (chunk M k) := by
  unfold free holds owns
  iintro ⟨%f, %hf, H⟩
  iexists (chunk M k).view.read (Elt F) f
  iexists f
  isplitr; · ipureintro; rfl
  rw [chunk_set M k]
  iexact H
/-- and a chunk held its slab. -/
theorem slab_of_chunk (c : Dev nD) {e : EltTy} (M : Memref sig .tc .vmem S4x128x512 e) (k : Fin 4) :
    free (F := F) c (chunk M k) ⊢ ownsSat (c : Thread nD τ) (M.slice (slab k) (fun _ => rfl)) fullShare (fun _ => True) := by
  unfold free holds owns ownsSat
  iintro ⟨%V, %f, %hf, H⟩
  iexists f
  isplitr; · ipureintro; trivial
  rw [chunk_set M k]
  iexact H

/-- A buffer held is its four chunks held, -/
theorem cut (c : Dev nD) {e : EltTy} (M : Memref sig .tc .vmem S4x128x512 e) :
    free (F := F) c M ⊢ bigSep Finset.univ fun k : Fin 4 => free (F := F) c (chunk M k) := by
  iintro ⟨%V, H⟩
  iapply (show holds c M fullShare V ⊢ bigSep Finset.univ fun k : Fin 4 => free (F := F) c (chunk M k) from
    (owns_rects (c : Thread nD τ) M fullShare slab (fun _ _ => rfl) slab_disjoint slab_cover V).trans
      (bigSep_mono fun k _ => chunk_of_slab c M k _))
  iexact H
/-- and back. -/
theorem join (c : Dev nD) {e : EltTy} (M : Memref sig .tc .vmem S4x128x512 e) :
    (bigSep Finset.univ fun k : Fin 4 => free (F := F) c (chunk M k)) ⊢ free (F := F) c M :=
  ((show (bigSep Finset.univ fun k : Fin 4 => free (F := F) c (chunk M k)) ⊢ bigSep Finset.univ fun k : Fin 4 =>
        ownsSat (c : Thread nD τ) (M.slice (slab k) (fun _ => rfl)) fullShare (fun _ => True) from
      bigSep_mono fun k _ => slab_of_chunk c M k).trans
    (ownsSat_of_rects (c : Thread nD τ) M fullShare slab (fun _ _ => rfl) slab_disjoint slab_cover (fun _ _ => True))).trans
    (ownsSat_any (c : Thread nD τ) M fullShare)

/-! ## Blocks -/

/-- The result block: in every band the sum of the four devices' bands. -/
def G (c : Dev nD) : (main_v1 : Ref sig .tc).ty.Contents (Elt F) := Rect.glue band band_cover (O m c)

theorem G_band (c : Dev nD) (k : Fin 4) : (fun j => G m c ((band k).emb j)) = O m c k :=
  funext fun j => Rect.glue_emb band band_cover band_disjoint (O m c) k j

/-- The input block is its four bands, -/
theorem cut_x (c : Dev nD) :
    holds c xM fullShare (m ((c : Thread nD τ).loc main_arg0)) ⊢ bigSep Finset.univ fun k : Fin 4 => holds c (xC k) fullShare (X m c k) :=
  owns_rects (c : Thread nD τ) xM fullShare band (fun _ _ => rfl) band_disjoint band_cover _
/-- and back; -/
theorem join_x (c : Dev nD) :
    (bigSep Finset.univ fun k : Fin 4 => holds c (xC k) fullShare (X m c k)) ⊢ holds c xM fullShare (m ((c : Thread nD τ).loc main_arg0)) :=
  owns_of_rects (c : Thread nD τ) xM fullShare band (fun _ _ => rfl) band_disjoint band_cover _
/-- the result block, whatever it holds, is its four bands, -/
theorem cut_out (c : Dev nD) (f : (main_v1 : Ref sig .tc).ty.Contents (Elt F)) :
    holds c outM fullShare f ⊢ bigSep Finset.univ fun k : Fin 4 => free (F := F) c (outC k) :=
  (owns_rects (c : Thread nD τ) outM fullShare band (fun _ _ => rfl) band_disjoint band_cover f).trans
    (bigSep_mono fun k _ => free_of c (outC k) _)
/-- and the four bands written are the block written. -/
theorem join_out (c : Dev nD) :
    (bigSep Finset.univ fun k : Fin 4 => holds c (outC k) fullShare (O m c k)) ⊢ holds c outM fullShare (G m c) := by
  have h := owns_of_rects (Ix := Unit) (Name := ℕ) (U := UU) (Lvl := ℕ) (c : Thread nD τ) outM fullShare band (fun _ _ => rfl)
    band_disjoint band_cover (G m c)
  rw [bigSep_congr fun k _ => congrArg (fun V => owns (c : Thread nD τ) (outC k) fullShare V) (G_band m c k)] at h
  exact h

end Cert.Exchange

end
-- ==== Proof.Deal.lean ====
/-
# What each device starts with

At launch every semaphore gets its invariant and every device the rights to raise: those of its own copies' semaphores
that nobody else raises stay with it, the others go to the neighbour that raises them. The units a device may wait for
are what the others owe it.
-/
module

public import proofs.«01_k».proof.Proof.Cut
public import Idealize.ShloMosaic.Lib.Pipeline.CollectiveSegs

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Semaphores and rights, numbered -/

/-- The semaphores of the copies. -/
abbrev own (s : Fin 6 × Fin 4) : SemLoc sig := .dma (dsem s.1 s.2)

theorem own_facts : Pipeline.OwnSemFacts cfg0.spec own := by decide

/-- Different slots are different semaphores. -/
theorem at_injective : Function.Injective at_ := by
  rintro ⟨c, s⟩ ⟨c', s'⟩ h
  have hc : c = c' := by
    have := congrArg (fun g : GSem nD τ sig => g.1.1) h
    cases s <;> cases s' <;> exact this
  subst hc
  have h2 := congrArg Prod.snd h
  rcases s with _ | ⟨j, k⟩ <;> rcases s' with _ | ⟨j', k'⟩
  · rfl
  · exact absurd h2 (by intro e; cases e)
  · exact absurd h2 (by intro e; cases e)
  · obtain ⟨rfl, rfl⟩ := dsem_inj (SemLoc.dma.inj h2); rfl

/-- A device's rights: two at the barrier, one for each copy semaphore. -/
abbrev Right : Type := Bool ⊕ (Fin 6 × Fin 4)
/-- Where a right is used. -/
def right (p : Dev nD × Right) : GSem nD τ sig × ℕ × Bool := match p.2 with
  | .inl b => (bar p.1, 0, b)
  | .inr s => (cell p.1 s.1 s.2, 0, false)

theorem right_injective : Function.Injective right := by
  rintro ⟨c, s⟩ ⟨c', s'⟩ h
  have hc : c = c' := by
    have := congrArg (fun g : GSem nD τ sig × ℕ × Bool => g.1.1.1) h
    cases s <;> cases s' <;> exact this
  subst hc
  have h2 := congrArg (fun g : GSem nD τ sig × ℕ × Bool => g.1.2) h
  have h3 := congrArg (fun g : GSem nD τ sig × ℕ × Bool => g.2.2) h
  rcases s with b | ⟨j, k⟩ <;> rcases s' with b' | ⟨j', k'⟩
  · have : b = b' := h3
    rw [this]
  · exact absurd h2 (by intro e; cases e)
  · exact absurd h2 (by intro e; cases e)
  · obtain ⟨rfl, rfl⟩ := dsem_inj (SemLoc.dma.inj h2); rfl

def cells : Finset (GSem nD τ sig) := Finset.univ.map ⟨at_, at_injective⟩
def rights : Finset (GSem nD τ sig × ℕ × Bool) := Finset.univ.map ⟨right, right_injective⟩

/-- The launch's ghost state: the pipeline's and the exchange's. -/
def u₀ : UU :=
  (initOf (Pipeline.cells cfgs cellOf_inj) (Pipeline.launchToks cfgs cellOf_inj), initOf cells rights)

/-- Two families of holdings may be gathered in either order. -/
theorem gather {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), ← bigSep_univ_prod (fun p : B × A => Φ p.2 p.1),
    bigSep_univ_equiv (Equiv.prodComm B A)]
  rfl

/-- A device's slots are the barrier's and the copies', -/
theorem slots (Φ : Slot → sProp 𝕄) :
    bigSep Finset.univ Φ = iprop(Φ none ∗ bigSep Finset.univ fun s : Fin 6 × Fin 4 => Φ (some s)) := by
  rw [bigSep_univ_at Φ none]
  congr 1
/-- and the copies' come chunk by chunk. -/
theorem by_chunk (Φ : Fin 6 × Fin 4 → sProp 𝕄) :
    bigSep Finset.univ Φ = bigSep Finset.univ fun k : Fin 4 => bigSep Finset.univ fun j : Fin 6 => Φ (j, k) := by
  rw [bigSep_univ_prod, gather]
/-- A device's rights likewise. -/
theorem rights_split (Φ : Right → sProp 𝕄) :
    bigSep Finset.univ Φ = iprop((Φ (.inl false) ∗ Φ (.inl true))
      ∗ bigSep Finset.univ fun k : Fin 4 => bigSep Finset.univ fun j : Fin 6 => Φ (.inr (j, k))) := by
  rw [bigSep_univ_sum, by_chunk, bigSep_univ_eq_bigSepL [false, true] (by decide) (by decide)]; rfl

/-! ## The deal -/

/-- The rights of device `c`'s own semaphores. -/
def toks (c : Dev nD) : sProp 𝕄 :=
  iprop((dutyTok ER (bar c) 0 false ∗ dutyTok ER (bar c) 0 true)
    ∗ bigSep Finset.univ fun k : Fin 4 => bigSep Finset.univ fun j : Fin 6 => turn (F := F) c j k)
/-- The rights device `c` uses. -/
def dealt (c : Dev nD) : sProp 𝕄 :=
  iprop((dutyTok ER (bar (peer false c)) 0 false ∗ dutyTok ER (bar (peer true c)) 0 true)
    ∗ bigSep Finset.univ fun k : Fin 4 => iprop(turn (F := F) c 0 k ∗ turn (F := F) (fst k c) 3 k ∗ turn (F := F) (snd k c) 5 k
        ∗ turn (F := F) c 1 k ∗ turn (F := F) c 2 k ∗ turn (F := F) c 4 k))

/-- What the launch's ghost state gives device `c`. -/
def given (c : Dev nD) : sProp 𝕄 :=
  iprop((bigSep Finset.univ fun s : Slot => roundState ER (plan m) (at_ (c, s)) 0)
    ∗ (bigSep Finset.univ fun s : Slot => iprop(atPos ER (at_ (c, s)) 0 ∅ 0 ∗ reached ER (at_ (c, s)) 0)) ∗ toks c)

theorem fund_all : BI.own (ER (initOf cells rights)) ⊢ (|==> bigSep Finset.univ (given m) : sProp 𝕄) := by
  have hX (Φ : GSem nD τ sig → sProp 𝕄) : bigSep cells Φ = bigSep Finset.univ fun c : Dev nD => bigSep Finset.univ fun s : Slot => Φ (at_ (c, s)) := by
    unfold cells; rw [bigSep_map, bigSep_univ_prod]; rfl
  have hT : bigSep rights (fun x => (dutyTok ER x.1 x.2.1 x.2.2 : sProp 𝕄)) = bigSep Finset.univ fun c : Dev nD => toks c := by
    unfold rights; rw [bigSep_map, bigSep_univ_prod]
    exact bigSep_congr fun c _ => by unfold toks; rw [rights_split]; rfl
  iintro HX
  imod (Rounds.fund ER (plan m) cells rights) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold given; simp only [bigSep_sep']
  isplitl [Hst']; · iexact Hst'
  isplitl [Hat' Hr']
  · isplitl [Hat'] <;> iassumption
  iexact Htok'

/-- The barrier's semaphore is the launch's one unscoped semaphore. -/
theorem unscoped_bar (c : Dev nD) : (unscopedSems0 c : sProp 𝕄) = semVal (bar c) 0 := by
  unfold unscopedSems0; rw [bigSep_eq_bigSepL_of_eq [SemLoc.reg barS] (by decide) (by decide)]; rfl

theorem sems_zero (c : Dev nD) :
    iprop(Pipeline.ownSems0 (Ix := Unit) (Name := ℕ) (U := UU) (Lvl := ℕ) (Val := Elt F) (τ := τ) own c ∗ unscopedSems0 c)
      ⊢ (bigSep Finset.univ fun s : Slot => semVal (at_ (c, s)) 0 : sProp 𝕄) := by
  rw [unscoped_bar, slots]
  unfold Pipeline.ownSems0
  iintro ⟨HS, HB⟩
  isplitl [HB]; · iexact HB
  iexact HS

/-- Each device's semaphores get their invariants. -/
theorem core_alloc (c : Dev nD) :
    iprop(Pipeline.ownSems0 (Ix := Unit) (Name := ℕ) (U := UU) (Lvl := ℕ) (Val := Elt F) (τ := τ) own c ∗ unscopedSems0 c ∗ given m c)
      ⊢ |={Set.univ}=> iprop((bigSep Finset.univ fun s : Slot => iprop(∃ κ : ℕ, cellInv ER (plan m) κ (at_ (c, s))))
          ∗ (bigSep Finset.univ fun s : Slot => iprop(atPos ER (at_ (c, s)) 0 ∅ 0 ∗ reached ER (at_ (c, s)) 0)) ∗ toks c) := by
  unfold given
  iintro ⟨Hos, Hus, Hst, Hat, Htok⟩
  ihave Hv := (sems_zero (F := F) c) $$ [Hos Hus]
  · isplitl [Hos] <;> iassumption
  imod (show iprop((bigSep Finset.univ fun s : Slot => semVal (at_ (c, s)) 0) ∗ bigSep Finset.univ fun s : Slot => roundState ER (plan m) (at_ (c, s)) 0)
      ⊢ (|={Set.univ}=> bigSep Finset.univ fun s : Slot => iprop(∃ κ : ℕ, cellInv ER (plan m) κ (at_ (c, s))) : sProp 𝕄) from by
        rw [← bigSep_sep']
        exact (bigSep_mono fun s _ => (Rounds.body_intro ER (plan m) (at_ (c, s))).trans inv_alloc).trans (bigSep_fupd _ _)) $$ [Hv Hst] with Hinv
  · isplitl [Hv] <;> iassumption
  imodintro
  isplitl [Hinv]; · iexact Hinv
  isplitl [Hat]; · iexact Hat
  iexact Htok

/-- The invariants and the rounds reached. -/
def marks (K : Dev nD × Slot → ℕ) : sProp 𝕄 :=
  iprop((bigSep Finset.univ fun p : Dev nD × Slot => cellInv ER (plan m) (K p) (at_ p))
    ∗ bigSep Finset.univ fun p : Dev nD × Slot => reached ER (at_ p) 0)

instance marks_persistent (K : Dev nD × Slot → ℕ) : BI.Persistent (marks m K) := by unfold marks; infer_instance

/-- What device `c` alone has: where it stands at each of its semaphores, and its rights. -/
def lot (c : Dev nD) : sProp 𝕄 :=
  iprop((bigSep Finset.univ fun s : Slot => atPos ER (at_ (c, s)) 0 ∅ 0) ∗ dealt c)

/-- What every device starts with. -/
def share (c : Dev nD) : sProp 𝕄 := iprop(∃ K, marks m K ∗ lot c)

/-- Rights at one semaphore of every device, read at a neighbour. -/
theorem pass (b : Bool) (Φ : Dev nD → sProp 𝕄) : bigSep Finset.univ Φ = bigSep Finset.univ fun c => Φ (peer b c) :=
  bigSep_univ_equiv (swap b) Φ

/-- The rights of one chunk's semaphores, of all devices. -/
theorem deal_chunk (k : Fin 4) :
    (bigSep Finset.univ fun c : Dev nD => bigSep Finset.univ fun j : Fin 6 => turn (F := F) c j k)
      ⊢ bigSep Finset.univ fun c : Dev nD => iprop(turn (F := F) c 0 k ∗ turn (F := F) (fst k c) 3 k ∗ turn (F := F) (snd k c) 5 k
        ∗ turn (F := F) c 1 k ∗ turn (F := F) c 2 k ∗ turn (F := F) c 4 k) := by
  rw [bigSep_congr fun c _ => sep_six (fun j : Fin 6 => turn (F := F) c j k)]
  simp only [bigSep_sep']
  rw [← pass (late k) (fun c : Dev nD => turn (F := F) c 3 k), ← pass (!late k) (fun c : Dev nD => turn (F := F) c 5 k)]

/-- The rights go where they are used. -/
theorem deal : (bigSep Finset.univ fun c : Dev nD => (toks c : sProp 𝕄)) ⊢ bigSep Finset.univ fun c : Dev nD => dealt c := by
  unfold toks dealt
  rw [bigSep_sep', bigSep_sep', bigSep_sep', bigSep_sep', gather, gather (fun (c : Dev nD) (k : Fin 4) => iprop(turn (F := F) c 0 k ∗ turn (F := F) (fst k c) 3 k ∗ turn (F := F) (snd k c) 5 k
        ∗ turn (F := F) c 1 k ∗ turn (F := F) c 2 k ∗ turn (F := F) c 4 k)),
    ← pass false (fun c : Dev nD => (dutyTok ER (bar c) 0 false : sProp 𝕄)),
    ← pass true (fun c : Dev nD => (dutyTok ER (bar c) 0 true : sProp 𝕄))]
  iintro ⟨H1, H2⟩
  isplitl [H1]; · iexact H1
  iapply (show (bigSep Finset.univ fun k : Fin 4 => bigSep Finset.univ fun c : Dev nD => bigSep Finset.univ fun j : Fin 6 => turn (F := F) c j k) ⊢ _ from
    bigSep_mono fun k _ => deal_chunk (F := F) k)
  iexact H2

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun s : Slot => iprop(∃ κ : ℕ, cellInv ER (plan m) κ (at_ (c, s))))
          ∗ (bigSep Finset.univ fun s : Slot => iprop(atPos ER (at_ (c, s)) 0 ∅ 0 ∗ reached ER (at_ (c, s)) 0)) ∗ toks c) : sProp 𝕄)
      ⊢ bigSep Finset.univ (share m) := by
  rw [bigSep_sep', bigSep_sep', ← bigSep_univ_prod (fun p : Dev nD × Slot => iprop(∃ κ : ℕ, cellInv ER (plan m) κ (at_ p))),
    bigSep_congr (s := Finset.univ) (fun (c : Dev nD) _ => bigSep_sep' Finset.univ (fun s : Slot => (atPos ER (at_ (c, s)) 0 ∅ 0 : sProp 𝕄)) (fun s => reached ER (at_ (c, s)) 0)),
    bigSep_sep', ← bigSep_univ_prod (fun p : Dev nD × Slot => (reached ER (at_ p) 0 : sProp 𝕄))]
  iintro ⟨HI, ⟨Hat, #HR⟩, Htok⟩
  ihave HK := (BI.bigSep_exists_pi Finset.univ (fun (p : Dev nD × Slot) (κ : ℕ) => (cellInv ER (plan m) κ (at_ p) : sProp 𝕄))) $$ HI
  icases HK with ⟨%K, #HI⟩
  ihave Htk := (deal (F := F)) $$ Htok
  iapply (with_persistent (R := marks m K) (Φ := lot) fun c _ => show iprop(marks m K ∗ lot c) ⊢ share m c by
    unfold share; iintro H; iexists K; iexact H)
  isplitr
  · unfold marks; isplitl; · iexact HI
    iexact HR
  · unfold lot; rw [bigSep_sep']
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) own c ∗ unscopedSems0 c ∗ given m c) : sProp 𝕄)
    ⊢ |={Set.univ}=> bigSep Finset.univ (share m) :=
  ((bigSep_mono fun c _ => core_alloc m c).trans (bigSep_fupd _ _)).trans (BI.fupd_mono (regroup m))

/-! ## The units to wait for -/

/-- What all devices owe one semaphore, each at a neighbour's, is what one of them owes it. -/
theorem owed_sum (b : Bool) (c : Dev nD) (s s' : SemLoc sig) (n : ℕ) :
    (∑ d : Dev nD, (tallyAt ((peer b d : Thread nD τ), s) () n : CellTallies nD τ sig Unit) ((c : Thread nD τ), s') ()) = if s' = s then n else 0 := by
  rw [show (∑ d : Dev nD, (tallyAt ((peer b d : Thread nD τ), s) () n : CellTallies nD τ sig Unit) ((c : Thread nD τ), s') ())
      = ∑ d : Dev nD, (tallyAt ((d : Thread nD τ), s) () n : CellTallies nD τ sig Unit) ((c : Thread nD τ), s') () from
    Fintype.sum_equiv (swap b) _ _ fun d => rfl]
  rw [Fintype.sum_eq_single c fun d hd => by
    rw [tallyAt_ne_cell (fun h => hd (congrArg (fun g : GSem nD τ sig => g.1.1) h).symm)]; rfl]
  rw [tallyAt_apply]
  by_cases h : s' = s
  · subst h; rw [if_pos rfl, if_pos ⟨rfl, rfl⟩]
  · rw [if_neg h, if_neg (fun hh => h (congrArg Prod.snd hh.1))]

theorem owed_at (c : Dev nD) (s : SemLoc sig) :
    (∑ d : Dev nD, owed0 d ((c : Thread nD τ), s) ()) =
      (((if s = own (5, 3) then amt 5 else 0) + (if s = own (5, 1) then amt 5 else 0) + (if s = own (5, 2) then amt 5 else 0)
        + (if s = own (5, 0) then amt 5 else 0) + (if s = own (3, 3) then amt 3 else 0) + (if s = own (3, 1) then amt 3 else 0)
        + (if s = own (3, 2) then amt 3 else 0) + (if s = own (3, 0) then amt 3 else 0)
        + (if s = .reg barS then 1 else 0)) + if s = .reg barS then 1 else 0) := by
  simp only [Pi.add_apply, Finsupp.add_apply, Pi.zero_apply, Finsupp.zero_apply, Finset.sum_add_distrib, owed_sum, Finset.sum_const_zero, Nat.zero_add]

/-- The barrier's two units, -/
theorem launch_bar (c : Dev nD) :
    tallyOn (bar c) (launchCredit (Pipeline.owing owed0) 0 (bar c)) = (tallyAt (bar c) () 2 : CellTallies nD τ sig Unit) := by
  unfold tallyAt; refine congrArg _ (Finsupp.ext fun u => ?_); cases u
  rw [Pipeline.launchCredit_owing, Finsupp.single_eq_same, owed_at]
  rfl
/-- and for the two arrivals of every chunk what its copy counts. -/
theorem launch_cell (c : Dev nD) (j : Fin 6) (hj : j = 3 ∨ j = 5) (k : Fin 4) :
    tallyOn (cell c j k) (launchCredit (Pipeline.owing owed0) 0 (cell c j k)) = (tallyAt (cell c j k) () (amt j) : CellTallies nD τ sig Unit) := by
  unfold tallyAt; refine congrArg _ (Finsupp.ext fun u => ?_); cases u
  rw [Pipeline.launchCredit_owing, Finsupp.single_eq_same, owed_at]
  have h (j' : Fin 6) (k' : Fin 4) (n : ℕ) : (if (SemLoc.dma (dsem j k) : SemLoc sig) = own (j', k') then n else 0) = if j = j' ∧ k = k' then n else 0 := by
    by_cases h : j = j' ∧ k = k'
    · obtain ⟨rfl, rfl⟩ := h; rw [if_pos rfl, if_pos ⟨rfl, rfl⟩]
    · rw [if_neg h, if_neg fun e => h (dsem_inj (SemLoc.dma.inj e))]
  rw [h, h, h, h, h, h, h, h, if_neg (show ¬ (SemLoc.dma (dsem j k) : SemLoc sig) = .reg barS from fun e => nomatch e)]
  rcases hj with rfl | rfl <;> fin_cases k <;> simp [amt_pos]

theorem creds_chunk (c : Dev nD) (k : Fin 4) :
    (bigSep Finset.univ fun j : Fin 6 => cred (tallyOn (cell c j k) (launchCredit (Pipeline.owing owed0) 0 (cell c j k))) : sProp 𝕄)
      ⊢ iprop(credit c 3 k ∗ credit c 5 k) := by
  rw [sep_six]
  iintro ⟨-, H3, H5, -, -, -⟩
  isplitl [H3]
  · rw [launch_cell c 3 (Or.inl rfl) k]; iexact H3
  · rw [launch_cell c 5 (Or.inr rfl) k]; iexact H5

/-- A device's semaphores among all of its kind of thread. -/
theorem creds (c : Dev nD) :
    (Pipeline.launchCred owed0 c : sProp 𝕄)
      ⊢ iprop(cred (tallyAt (bar c) () 2) ∗ bigSep Finset.univ fun k : Fin 4 => iprop(credit c 3 k ∗ credit c 5 k)) := by
  have hinj : Function.Injective fun s : Slot => (at_ (c, s)).2 := fun s s' h => by
    have h' : at_ (c, s) = at_ (c, s') := Prod.ext (by cases s <;> cases s' <;> rfl) h
    exact congrArg Prod.snd (at_injective h')
  unfold Pipeline.launchCred
  refine (bigSep_subset (Finset.subset_univ (Finset.univ.map ⟨fun s : Slot => (at_ (c, s)).2, hinj⟩))).trans ?_
  rw [bigSep_map, slots, by_chunk]
  show iprop(cred (tallyOn (bar c) (launchCredit (Pipeline.owing owed0) 0 (bar c)))
      ∗ bigSep Finset.univ fun k : Fin 4 => bigSep Finset.univ fun j : Fin 6 => cred (tallyOn (cell c j k) (launchCredit (Pipeline.owing owed0) 0 (cell c j k))))
    ⊢ (_ : sProp 𝕄)
  iintro ⟨HB, HC⟩
  isplitl [HB]
  · rw [← launch_bar c]; iexact HB
  iapply (show (bigSep Finset.univ fun k : Fin 4 => bigSep Finset.univ fun j : Fin 6 => (cred (tallyOn (cell c j k) (launchCredit (Pipeline.owing owed0) 0 (cell c j k))) : sProp 𝕄))
    ⊢ _ from bigSep_mono fun k _ => creds_chunk (F := F) c k)
  iexact HC

end Cert.Exchange

end
-- ==== Proof.Run.lean ====
/-
# The run

Every device starts with its buffers, its rights and the units it may wait for, runs the body, and ends with its result
block written, its argument as it was and every semaphore at zero.
-/
module

public import proofs.«01_k».proof.Proof.Deal

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The ends of the body -/

/-- A device's argument and result, the latter holding `f`. -/
def blocks (c : Dev nD) (f : (main_v1 : Ref sig .tc).ty.Contents (Elt F)) : sProp 𝕄 :=
  iprop(holds c xM fullShare (m ((c : Thread nD τ).loc main_arg0)) ∗ holds c outM fullShare f)

/-- What device `c` starts with, but for the scratch buffers. -/
def start (c : Dev nD) : sProp 𝕄 :=
  iprop((∃ K, records m K) ∗ lot c
    ∗ (cred (tallyAt (bar c) () 2) ∗ bigSep Finset.univ fun k : Fin 4 => iprop(credit c 3 k ∗ credit c 5 k))
    ∗ blocks m c (m ((c : Thread nD τ).loc main_v1)))

/-- The scratch buffers, at any contents. -/
def scratch (c : Dev nD) : sProp 𝕄 :=
  iprop(free (F := F) c xvM ∗ free (F := F) c sM ∗ free (F := F) c tM ∗ free (F := F) c r1M ∗ free (F := F) c r2M ∗ free (F := F) c oM)

theorem scratch_eq (c : Dev nD) :
    (scopedRest (Ix := Unit) (Name := ℕ) (U := UU) (Lvl := ℕ) (Val := Elt F) cfg0.spec c : sProp 𝕄) = scratch c := by
  rw [scopedRest0_eq]
  unfold scratch free holds
  simp only [owns_whole]
  rfl

/-- What the body starts from and what it leaves. -/
def Φ₀ (c : Dev nD) : sProp 𝕄 := iprop(start m c ∗ scopedRest cfg0.spec c)
def Φ₁ (c : Dev nD) : sProp 𝕄 :=
  iprop((semVal (bar c) 0 ∗ blocks m c (G m c))
    ∗ ownSems0 (Ix := Unit) (Name := ℕ) (U := UU) (Lvl := ℕ) (Val := Elt F) (τ := τ) own c ∗ scopedRest cfg0.spec c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owed0 c
    | ⟨_ + 1, _⟩ => 0

/-! ## Into the chunks and out of them -/

/-- One chunk's share, gathered from the kinds of things it is of. -/
theorem enter_chunk (c : Dev nD) (k : Fin 4) :
    iprop((bigSep Finset.univ fun j : Fin 6 => (atPos ER (at_ (c, some (j, k))) 0 ∅ 0 : sProp 𝕄))
      ∗ (turn (F := F) c 0 k ∗ turn (F := F) (fst k c) 3 k ∗ turn (F := F) (snd k c) 5 k
        ∗ turn (F := F) c 1 k ∗ turn (F := F) c 2 k ∗ turn (F := F) c 4 k)
      ∗ (credit (F := F) c 3 k ∗ credit (F := F) c 5 k)
      ∗ holds c (xC k) fullShare (X m c k) ∗ free (F := F) c (outC k) ∗ free (F := F) c (chunk xvM k)
      ∗ free (F := F) c (chunk sM k) ∗ free (F := F) c (chunk tM k) ∗ free (F := F) c (chunk oM k))
    ⊢ st0 m c k := by
  unfold st0 keepCast keepAdd keepDrain keepWaits
  rw [sep_six]
  iintro ⟨⟨Ha0, Ha3, Ha5, Ha1, Ha2, Ha4⟩, ⟨Ht0, Ht3, Ht5, Ht1, Ht2, Ht4⟩, ⟨Hc3, Hc5⟩, Hx, Hout, Hxv, Hs, Ht, Ho⟩
  isplitl [Hx Hxv Ht0]
  · isplitl [Hx]; · iexact Hx
    isplitl [Hxv]; · iexact Hxv
    iexact Ht0
  isplitl [Ha0 Hs Ht2 Ht3]
  · isplitl [Ha0]; · iexact Ha0
    isplitl [Hs]; · iexact Hs
    isplitl [Ht2]; · iexact Ht2
    iexact Ht3
  isplitl [Hc3 Ha3 Ht Ht4 Ht5]
  · isplitl [Hc3]; · iexact Hc3
    isplitl [Ha3]; · iexact Ha3
    isplitl [Ht]; · iexact Ht
    isplitl [Ht4]; · iexact Ht4
    iexact Ht5
  isplitl [Hc5 Ha5 Ho Hout Ht1]
  · isplitl [Hc5]; · iexact Hc5
    isplitl [Ha5]; · iexact Ha5
    isplitl [Ho]; · iexact Ho
    isplitl [Hout]; · iexact Hout
    iexact Ht1
  isplitl [Ha1]; · iexact Ha1
  isplitl [Ha2]; · iexact Ha2
  iexact Ha4

/-- Every chunk's share of what a device starts with, besides the credit, the rights and the positions. -/
theorem enter (c : Dev nD) :
    iprop(lot c ∗ (cred (tallyAt (bar c) () 2) ∗ bigSep Finset.univ fun k : Fin 4 => iprop(credit (F := F) c 3 k ∗ credit (F := F) c 5 k))
        ∗ blocks m c (m ((c : Thread nD τ).loc main_v1)) ∗ scratch c) ⊢ bodyPre m c := by
  unfold lot dealt blocks scratch bodyPre
  rw [slots, by_chunk]
  iintro ⟨⟨⟨HaB, Hat⟩, ⟨Hf, Ht⟩, Hk⟩, ⟨HcB, Hc⟩, ⟨Hx, Hout⟩, Hxv, Hs, Htt, Hr1, Hr2, Ho⟩
  ihave Hx := (cut_x m c) $$ Hx
  ihave Hout := (cut_out (F := F) c _) $$ Hout
  ihave Hxv := (cut (F := F) c xvM) $$ Hxv
  ihave Hs := (cut (F := F) c sM) $$ Hs
  ihave Htt := (cut (F := F) c tM) $$ Htt
  ihave Hr1 := (cut (F := F) c r1M) $$ Hr1
  ihave Hr2 := (cut (F := F) c r2M) $$ Hr2
  ihave Ho := (cut (F := F) c oM) $$ Ho
  isplitl [HcB]; · iexact HcB
  isplitl [HaB]; · iexact HaB
  isplitl [Hf]; · iexact Hf
  isplitl [Ht]; · iexact Ht
  isplitl [Hr1 Hr2]
  · rw [bigSep_sep']
    isplitl [Hr1]; · iexact Hr1
    iexact Hr2
  ihave H := (show iprop((bigSep Finset.univ fun k : Fin 4 => bigSep Finset.univ fun j : Fin 6 => (atPos ER (at_ (c, some (j, k))) 0 ∅ 0 : sProp 𝕄))
      ∗ (bigSep Finset.univ fun k : Fin 4 => iprop(turn (F := F) c 0 k ∗ turn (F := F) (fst k c) 3 k ∗ turn (F := F) (snd k c) 5 k
        ∗ turn (F := F) c 1 k ∗ turn (F := F) c 2 k ∗ turn (F := F) c 4 k))
      ∗ (bigSep Finset.univ fun k : Fin 4 => iprop(credit (F := F) c 3 k ∗ credit (F := F) c 5 k))
      ∗ (bigSep Finset.univ fun k : Fin 4 => holds c (xC k) fullShare (X m c k))
      ∗ (bigSep Finset.univ fun k : Fin 4 => free (F := F) c (outC k))
      ∗ (bigSep Finset.univ fun k : Fin 4 => free (F := F) c (chunk xvM k))
      ∗ (bigSep Finset.univ fun k : Fin 4 => free (F := F) c (chunk sM k))
      ∗ (bigSep Finset.univ fun k : Fin 4 => free (F := F) c (chunk tM k))
      ∗ bigSep Finset.univ fun k : Fin 4 => free (F := F) c (chunk oM k))
    ⊢ bigSep Finset.univ (st0 m c) from by
      rw [← bigSep_sep', ← bigSep_sep', ← bigSep_sep', ← bigSep_sep', ← bigSep_sep', ← bigSep_sep', ← bigSep_sep', ← bigSep_sep']
      exact bigSep_mono fun k _ => enter_chunk m c k) $$ [Hat Hk Hc Hx Hout Hxv Hs Htt Ho]
  · iframe
  iexact H

/-- One chunk's leavings, sorted by kind. -/
theorem leave_chunk (c : Dev nD) (k : Fin 4) :
    fin m c k ⊢ iprop((bigSep Finset.univ fun j : Fin 6 => (semVal (cell c j k) 0 : sProp 𝕄))
      ∗ holds c (xC k) fullShare (X m c k) ∗ holds c (outC k) fullShare (O m c k) ∗ free (F := F) c (chunk xvM k)
      ∗ free (F := F) c (chunk sM k) ∗ free (F := F) c (chunk tM k) ∗ free (F := F) c (chunk r1M k)
      ∗ free (F := F) c (chunk r2M k) ∗ free (F := F) c (chunk oM k)) := by
  unfold fin
  iintro H
  iexact H

/-- The chunks' leavings are the whole buffers, and the copy semaphores at zero. -/
theorem leave (c : Dev nD) :
    bigSep Finset.univ (fin m c) ⊢ iprop(blocks m c (G m c)
      ∗ ownSems0 (Ix := Unit) (Name := ℕ) (U := UU) (Lvl := ℕ) (Val := Elt F) (τ := τ) own c ∗ scratch c) := by
  unfold blocks scratch ownSems0
  rw [by_chunk]
  refine (show bigSep Finset.univ (fin m c) ⊢ _ from bigSep_mono fun k _ => leave_chunk m c k).trans ?_
  rw [bigSep_sep', bigSep_sep', bigSep_sep', bigSep_sep', bigSep_sep', bigSep_sep', bigSep_sep', bigSep_sep']
  iintro ⟨Hz, Hx, Hout, Hxv, Hs, Ht, Hr1, Hr2, Ho⟩
  ihave Hx := (join_x m c) $$ Hx
  ihave Hout := (join_out m c) $$ Hout
  ihave Hxv := (join (F := F) c xvM) $$ Hxv
  ihave Hs := (join (F := F) c sM) $$ Hs
  ihave Ht := (join (F := F) c tM) $$ Ht
  ihave Hr1 := (join (F := F) c r1M) $$ Hr1
  ihave Hr2 := (join (F := F) c r2M) $$ Hr2
  ihave Ho := (join (F := F) c oM) $$ Ho
  isplitl [Hx Hout]
  · isplitl [Hx]; · iexact Hx
    iexact Hout
  isplitl [Hz]; · iexact Hz
  isplitl [Hxv]; · iexact Hxv
  isplitl [Hs]; · iexact Hs
  isplitl [Ht]; · iexact Ht
  isplitl [Hr1]; · iexact Hr1
  isplitl [Hr2]; · iexact Hr2
  iexact Ho

/-! ## The body's obligation -/

/-- On every device the body leads from what it starts with to what it leaves. -/
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ _) ⊢ wp frame (wpE (defs₀ (F := F)) 𝒱₀ (c : Thread nD τ) none) Set.univ
    (bodyAt0 (F := F) t0_0) (fun _ => iprop(Φ₁ m c ∗ (dats m 0 c).owesAt () t0_0.succ ∗ _))
  rw [body_eq]
  unfold Φ₀ start
  rw [scratch_eq]
  iintro ⟨⟨⟨⟨%K, #Hrec⟩, Hlot, Hcr, Hbl⟩, Hscr⟩, ⟨%W, -, HO⟩, -⟩
  ihave Hpre := (enter m c) $$ [Hlot Hcr Hbl Hscr]
  · isplitl [Hlot]; · iexact Hlot
    isplitl [Hcr]; · iexact Hcr
    isplitl [Hbl]; · iexact Hbl
    iexact Hscr
  iapply (run_body m K c)
  isplitr; · iexact Hrec
  isplitl [Hpre]; · iexact Hpre
  isplitl [HO]; · iexists W; iexact HO
  iintro ⟨⟨%W', HO⟩, HB, Hfin⟩
  ihave H := (leave m c) $$ Hfin
  icases H with ⟨Hbl, Hz, Hscr⟩
  unfold Φ₁
  rw [scratch_eq]
  isplitl [HB Hbl Hz Hscr]
  · isplitl [HB Hbl]
    · isplitl [HB]; · iexact HB
      iexact Hbl
    isplitl [Hz]; · iexact Hz
    iexact Hscr
  isplitl [HO]
  · iexists W'
    isplitr; · ipureintro; exact fun _ _ => Or.inl trivial
    iexact HO
  rw [Finset.univ_eq_empty, bigSep_empty]
  iempintro

/-! ## The launch's side conditions -/

theorem start_intro (c : Dev nD) :
    iprop(unscopedRestP Prefetch.none cfg0.spec c (fun b => m ((c : Thread nD τ).loc b)) ∗ levAts L lv
        ∗ launchCred owed0 c ∗ prngReg c (ρ c) ∗ share m c)
      ⊢ |={Set.univ}=> iprop(start m c ∗ emp) := by
  rw [unscopedRestP_none, unscopedRest0_eq]
  unfold start share blocks holds marks records
  rw [owns_whole, owns_whole]
  iintro ⟨⟨Hx, Hout⟩, #Hlev, Hcr, -, ⟨%K, ⟨#HI, #HR⟩, Hlot⟩⟩
  ihave Hc := (creds (F := F) c) $$ Hcr
  imodintro
  isplitl
  · isplitr
    · iexists K
      isplitr; · iexact HI
      isplitr; · iexact HR
      iexact Hlev
    isplitl [Hlot]; · iexact Hlot
    isplitl [Hc]; · iexact Hc
    isplitl [Hx]; · iexact Hx
    iexact Hout
  · iempintro

theorem phi0_intro (c : Dev nD) :
    iprop(start m c ∗ prefHeld Prefetch.none c (fun _ => fullShare.right) (fun k => k.elim0) ∗ scopedRest cfg0.spec c)
      ⊢ (dats m 0 c).Φ 0 := by
  show _ ⊢ Φ₀ m c
  unfold Φ₀
  iintro ⟨Hs, -, Hr⟩
  isplitl [Hs]; · iexact Hs
  iexact Hr

/-- What a device keeps to the end beside the scoped buffers: its barrier at zero, its argument and its result. -/
def kept (c : Dev nD) : sProp 𝕄 := iprop(unscopedSems0 c ∗ blocks m c (G m c))

theorem phi1_exit (c : Dev nD) :
    (dats m 0 c).Φ (Fin.last cfg0.N) ⊢ iprop(kept m c ∗ ownSems0 own c ∗ scopedRest cfg0.spec c) := by
  show Φ₁ m c ⊢ _
  unfold Φ₁ kept
  rw [unscoped_bar]

theorem waits (c : Dev nD) : (levAts L lv : sProp 𝕄) ⊢ cellsWaits cfgs (dats m) () 0 c :=
  cellsWaits_intro cfgs (dats m) () 0 c fun w s t => w.elim0

/-- What is read off the final memory on device `c`. -/
def Reads (c : Dev nD) (s : MemSt nD τ sig (Elt F)) : Prop :=
  (s.mem ((c : Thread nD τ).loc main_arg0) = m ((c : Thread nD τ).loc main_arg0) ∧ s.mem ((c : Thread nD τ).loc main_v1) = G m c)
    ∧ ∀ sm : SemLoc sig, sm.isScoped .tc = false → s.sem ((c.tc : Thread nD τ), sm) = 0

theorem reads (c : Dev nD) (s' : Phys nD τ sig (Elt F)) :
    iprop(kept m c ∗ emp ∗ SI s') ⊢ |={Set.univ}=> iprop(⌜Reads m c s'.mem⌝ ∗ SI s') := by
  unfold kept blocks holds
  rw [owns_whole, owns_whole]
  iintro ⟨⟨Hz, Hx, Hout⟩, -, HSI⟩
  icombine HSI Hx gives %hx
  icombine HSI Hout gives %ho
  imod (unscopedSems0_read (X := unscopedSems0 c) (c := c) fupd_intro s') $$ [Hz HSI] with ⟨%hz, HSI⟩
  · isplitl [Hz] <;> iassumption
  imodintro
  isplitr
  · ipureintro
    exact ⟨⟨funext fun i => hx i (Finset.mem_univ i), funext fun i => ho i (Finset.mem_univ i)⟩, hz⟩
  iexact HSI

/-! ## The run -/

set_option maxRecDepth 8000 in
/-- On four devices, for any float values, from any memory with every counter at zero: the program terminates, and at the
    end every device's argument is as it was, its result is the sum block and every counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_v1) = G m c) ∧ r.2.sem = fun _ => 0) :=
  θ_run_region_owing_glob_pf (fun p => (cfgs p).toPCfg) (fun p => (cfgs p).toPCfg_adm) (dats m) () cellOf_inj (0 : Fin 1)
    winFacts0.to₀ own_facts (PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := owed0) (howed₀ := fun _ => rfl) (howedN := fun _ => rfl)
    (L := L) (lv := lv) (hL := L_of_ne) (hwaits := waits m)
    (G := given m) (G' := share m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := kept m) (Z := fun _ => iprop(emp))
    (hX := start_intro m ρ) (hin := phi0_intro m) (hout := phi1_exit m)
    (QY := Reads m) (hY := reads m)
    (hQ := fun _ h hs => ⟨fun c => (h c).2.2.1, sem_eq_zero hs fun c => (h c).2.2.2⟩)

end Cert.Exchange

end
-- ==== Proof.Value.lean ====
/-
# The value over the extended reals

The kernel's result block is, entry by entry, the sum of the four devices' blocks, and so is the reference's.
-/
module

public import proofs.«01_k».proof.Proof.Cut
public import proofs.«01_k».proof.Proof.Gen.ReferenceIdeal.Run
public import Idealize.ShloMosaic.Lib.Layout
public import Idealize.ShloMosaic.Lib.Pointwise

@[expose] public section

noncomputable section

namespace Cert.Exchange

open Idealize.ShloMosaic Idealize.ShloMosaic.TcCoe
open Cert.KernelIdeal Cert.KernelIdeal.Gen

/-! ## The kernel -/

/-- A device, its neighbour on one side, and the other side's neighbours of the two are all four devices. -/
theorem four (b : Bool) (c : Dev nD) (f : Dev nD → EReal) :
    (f c + f (peer b c)) + (f (peer (!b) c) + f (peer b (peer (!b) c))) = ∑ d : Dev nD, f d := by
  have hu : (Finset.univ : Finset (Dev nD)) = [c, peer b c, peer (!b) c, peer b (peer (!b) c)].toFinset := by
    revert b c; decide
  have hn : [c, peer b c, peer (!b) c, peer b (peer (!b) c)].Nodup := by revert b c; decide
  rw [hu, List.sum_toFinset f hn]
  simp [add_assoc]

/-- Entry `i` of device `d`'s argument block, as an extended real. -/
def entry (m : (ℓ : Loc nD τ sig) → Buf (Elt Ideal) ℓ) (d : Dev nD) (i : S512x512.Idx) : EReal :=
  m ((d : Thread nD τ).loc main_arg0) i

/-- Every device's result block is the sum of the four argument blocks. -/
theorem G_sum (m : (ℓ : Loc nD τ sig) → Buf (Elt Ideal) ℓ) (c : Dev nD) :
    G (F := Ideal) m c = fun i => ∑ d : Dev nD, entry m d i := by
  refine Rect.ext_of_cover band band_cover fun k j => ?_
  rw [show G (F := Ideal) m c ((band k).emb j) = O m c k j from congrFun (G_band m c k) j]
  exact four (late k) c fun d => entry m d ((band k).emb j)

/-! ## The reference -/

/-- The reference's result is the sum of the whole array's four blocks. -/
theorem ref_sum (h : Layout.Tiles ⟨2, ![512, 512]⟩ ⟨2, ![2048, 512]⟩ 0 4)
    (x : FVec Ideal Cert.ReferenceIdeal.S2048x512 .f32) :
    (truncf .bf16 (Host.reduceAdd (shapeCast _ x Cert.ReferenceIdeal.Gen.shapeCasts_S2048x512_S4x512x512)
        (constant Cert.ReferenceIdeal.S_ .f32 0x00000000#32) Cert.ReferenceIdeal.Gen.reducesTo_S4x512x512_S512x512_d0
        Cert.ReferenceIdeal.Gen.h_S_) Cert.ReferenceIdeal.Gen.bitsLt_bf16_f32 : FVec Ideal Cert.ReferenceIdeal.S512x512 .bf16)
      = fun i => ∑ d : Fin 4, (Layout.block ⟨2, ![512, 512]⟩ ⟨2, ![2048, 512]⟩ 0 4 d x h i : EReal) := by
  funext i
  simp only [pointwise]
  refine (zero_add _).trans (Finset.sum_congr rfl fun d _ => congrArg x (funext fun a => Fin.ext ?_))
  fin_cases a
  · exact (Layout.idx_rows_val h d i).1.symm
  · exact (Layout.idx_rows_val h d i).2.symm

end Cert.Exchange

end
-- ==== Proof.lean ====
/-
# The certificate

The three frames, the rewriting claim and the equality of the kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The printed kernel on bit patterns ends with its arguments unchanged and every counter at zero. -/
theorem frame_kernel : Cert.quiescent_Kernel := fun m ρ _ =>
  (θ_run Cert.KernelIdeal.defs _ _).mono (fun _ h => ⟨fun c => (h.1 c).1, h.2⟩)
    (Cert.Exchange.run_main (F := Bits) m ρ)

/-- The same over the extended reals. -/
theorem frame_ideal : Cert.quiescent_KernelIdeal := fun m ρ _ =>
  (θ_run Cert.KernelIdeal.defs _ _).mono (fun _ h => ⟨fun c => (h.1 c).1, h.2⟩)
    (Cert.Exchange.run_main (F := Ideal) m ρ)

/-- The reference keeps its argument, and it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's: both are the sum of the four blocks. -/
theorem equal : Cert.algebraic_KernelIdeal_ReferenceIdeal := fun m g m' g' _ hm => by
  refine ⟨_, (θ_run Cert.KernelIdeal.defs _ _).mono (fun _ h c => ⟨(h.1 c).2.trans ?_, (h.1 c).1⟩)
      (Cert.Exchange.run_main (F := Ideal) m g),
    (θ_run Cert.ReferenceIdeal.defs _ _).mono (fun _ h => h 0) (Cert.ReferenceIdeal.Value.run (F := Ideal) m' g')⟩
  refine (Cert.Exchange.G_sum m c).trans (Eq.trans ?_ (Cert.Exchange.ref_sum (by decide) _).symm)
  exact funext fun i => Finset.sum_congr rfl fun d _ => congrFun (hm d) i

theorem claim : Cert.Claim := ⟨Cert.Kernel.Gen.facts, Cert.KernelIdeal.Gen.facts, Cert.ReferenceIdeal.Gen.facts,
  frame_kernel, frame_ideal, frame_reference, trivial, equal⟩

end Cert.Proof

end
